-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8192x128 : Shape := ⟨3, ![64, 8192, 128]⟩
abbrev S64x16x128 : Shape := ⟨3, ![64, 16, 128]⟩
abbrev S16x4x248x128 : Shape := ⟨4, ![16, 4, 248, 128]⟩
abbrev S4 : Shape := ⟨1, ![4]⟩
abbrev S_ : Shape := ⟨0, ![]⟩
abbrev S1 : Shape := ⟨1, ![1]⟩
abbrev S1x1x248x128 : Shape := ⟨4, ![1, 1, 248, 128]⟩
abbrev S248x128 : Shape := ⟨2, ![248, 128]⟩
abbrev S1x248x128 : Shape := ⟨3, ![1, 248, 128]⟩
abbrev S1x1x240x128 : Shape := ⟨4, ![1, 1, 240, 128]⟩
abbrev S240x128 : Shape := ⟨2, ![240, 128]⟩
abbrev S1x240x128 : Shape := ⟨3, ![1, 240, 128]⟩
abbrev S1x1x16x128 : Shape := ⟨4, ![1, 1, 16, 128]⟩
abbrev S16x128 : Shape := ⟨2, ![16, 128]⟩
abbrev S1x16x128 : Shape := ⟨3, ![1, 16, 128]⟩

abbrev nBuf : Table → Nat
  | .hbm => 3
  | .shared => 1
  | _ => 0

abbrev bufTy : (tb : Table) → Fin (nBuf tb) → BufTy
  | .hbm, ⟨0, _⟩ => ⟨S64x8192x128, .f32⟩
  | .hbm, ⟨1, _⟩ => ⟨S64x16x128, .f32⟩
  | .hbm, ⟨2, _⟩ => ⟨S64x8192x128, .f32⟩
  | .shared, ⟨0, _⟩ => ⟨S16x4x248x128, .f32⟩
  | _, _ => ⟨S64x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c0_i32_0 : BitVec 32 := 0#32
  let c0_i32_2 : BitVec 32 := 0#32
  let c0_i32_3 : BitVec 32 := 0#32
  ![arg1.toNat, 0, 0, 0]
def k0_off2 (i : grid0.Coords) (c0_i32 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let v3 : BitVec 32 := Scalar.addi v2 c0_i32
  let c16_i32_4 : BitVec 32 := 16#32
  let c0_i32_5 : BitVec 32 := 0#32
  ![v3.toNat, 16, 0]
def k0_off3 (i : grid0.Coords) : Fin 4 → Nat :=
  let arg1 : BitVec 32 := BitVec.ofNat 32 (i 1).val
  let c1_i32 : BitVec 32 := 1#32
  let c0_i32_9 : BitVec 32 := 0#32
  let c0_i32_10 : BitVec 32 := 0#32
  ![arg1.toNat, 1, 0, 0]
def k0_off4 (i : grid0.Coords) (c0_i32_7 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_6 : BitVec 32 := 2#32
  let v10 : BitVec 32 := Scalar.muli v1 c2_i32_6
  let v11 : BitVec 32 := Scalar.addi v10 c0_i32_7
  let c264_i32 : BitVec 32 := 264#32
  let c0_i32_11 : BitVec 32 := 0#32
  ![v11.toNat, 264, 0]
def k0_off5 (i : grid0.Coords) : Fin 4 → Nat :=
  let arg1 : BitVec 32 := BitVec.ofNat 32 (i 1).val
  let c2_i32_14 : BitVec 32 := 2#32
  let c0_i32_16 : BitVec 32 := 0#32
  let c0_i32_17 : BitVec 32 := 0#32
  ![arg1.toNat, 2, 0, 0]
def k0_off6 (i : grid0.Coords) (c0_i32_13 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_12 : BitVec 32 := 2#32
  let v18 : BitVec 32 := Scalar.muli v1 c2_i32_12
  let v19 : BitVec 32 := Scalar.addi v18 c0_i32_13
  let c512_i32 : BitVec 32 := 512#32
  let c0_i32_18 : BitVec 32 := 0#32
  ![v19.toNat, 512, 0]
def k0_off7 (i : grid0.Coords) : Fin 4 → Nat :=
  let arg1 : BitVec 32 := BitVec.ofNat 32 (i 1).val
  let c3_i32 : BitVec 32 := 3#32
  let c0_i32_22 : BitVec 32 := 0#32
  let c0_i32_23 : BitVec 32 := 0#32
  ![arg1.toNat, 3, 0, 0]
def k0_off8 (i : grid0.Coords) (c0_i32_20 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_19 : BitVec 32 := 2#32
  let v26 : BitVec 32 := Scalar.muli v1 c2_i32_19
  let v27 : BitVec 32 := Scalar.addi v26 c0_i32_20
  let c760_i32 : BitVec 32 := 760#32
  let c0_i32_24 : BitVec 32 := 0#32
  ![v27.toNat, 760, 0]
def k0_off9 (i : grid0.Coords) (c0_i32_34 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_33 : BitVec 32 := 2#32
  let v42 : BitVec 32 := Scalar.muli v1 c2_i32_33
  let v43 : BitVec 32 := Scalar.addi v42 c0_i32_34
  let c0_i32_37 : BitVec 32 := 0#32
  let c0_i32_38 : BitVec 32 := 0#32
  ![v43.toNat, 0, 0]
def k0_off10 (i : grid0.Coords) (c0_i32_50 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_49 : BitVec 32 := 2#32
  let v58 : BitVec 32 := Scalar.muli v1 c2_i32_49
  let v59 : BitVec 32 := Scalar.addi v58 c0_i32_50
  let c1008_i32 : BitVec 32 := 1008#32
  let c0_i32_55 : BitVec 32 := 0#32
  ![v59.toNat, 1008, 0]
def k0_off11 (i : grid0.Coords) (c0_i32_65 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_64 : BitVec 32 := 2#32
  let v74 : BitVec 32 := Scalar.muli v1 c2_i32_64
  let v75 : BitVec 32 := Scalar.addi v74 c0_i32_65
  let c248_i32 : BitVec 32 := 248#32
  let c0_i32_68 : BitVec 32 := 0#32
  ![v75.toNat, 248, 0]
def k0_off12 (i : grid0.Coords) (c0_i32_80 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_79 : BitVec 32 := 2#32
  let v90 : BitVec 32 := Scalar.muli v1 c2_i32_79
  let v91 : BitVec 32 := Scalar.addi v90 c0_i32_80
  let c1256_i32 : BitVec 32 := 1256#32
  let c0_i32_85 : BitVec 32 := 0#32
  ![v91.toNat, 1256, 0]
def k0_off13 (i : grid0.Coords) (c0_i32_95 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_94 : BitVec 32 := 2#32
  let v106 : BitVec 32 := Scalar.muli v1 c2_i32_94
  let v107 : BitVec 32 := Scalar.addi v106 c0_i32_95
  let c496_i32 : BitVec 32 := 496#32
  let c0_i32_98 : BitVec 32 := 0#32
  ![v107.toNat, 496, 0]
def k0_off14 (i : grid0.Coords) (c0_i32_110 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_109 : BitVec 32 := 2#32
  let v122 : BitVec 32 := Scalar.muli v1 c2_i32_109
  let v123 : BitVec 32 := Scalar.addi v122 c0_i32_110
  let c1504_i32 : BitVec 32 := 1504#32
  let c0_i32_115 : BitVec 32 := 0#32
  ![v123.toNat, 1504, 0]
def k0_off15 (i : grid0.Coords) (c0_i32_125 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_124 : BitVec 32 := 2#32
  let v138 : BitVec 32 := Scalar.muli v1 c2_i32_124
  let v139 : BitVec 32 := Scalar.addi v138 c0_i32_125
  let c744_i32 : BitVec 32 := 744#32
  let c0_i32_128 : BitVec 32 := 0#32
  ![v139.toNat, 744, 0]
def k0_off16 (i : grid0.Coords) (c0_i32_140 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_139 : BitVec 32 := 2#32
  let v154 : BitVec 32 := Scalar.muli v1 c2_i32_139
  let v155 : BitVec 32 := Scalar.addi v154 c0_i32_140
  let c1752_i32 : BitVec 32 := 1752#32
  let c0_i32_145 : BitVec 32 := 0#32
  ![v155.toNat, 1752, 0]
def k0_off17 (i : grid0.Coords) (c0_i32_155 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_154 : BitVec 32 := 2#32
  let v170 : BitVec 32 := Scalar.muli v1 c2_i32_154
  let v171 : BitVec 32 := Scalar.addi v170 c0_i32_155
  let c992_i32 : BitVec 32 := 992#32
  let c0_i32_158 : BitVec 32 := 0#32
  ![v171.toNat, 992, 0]
def k0_off18 (i : grid0.Coords) (c0_i32_170 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_169 : BitVec 32 := 2#32
  let v186 : BitVec 32 := Scalar.muli v1 c2_i32_169
  let v187 : BitVec 32 := Scalar.addi v186 c0_i32_170
  let c2000_i32 : BitVec 32 := 2000#32
  let c0_i32_175 : BitVec 32 := 0#32
  ![v187.toNat, 2000, 0]
def k0_off19 (i : grid0.Coords) (c0_i32_185 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_184 : BitVec 32 := 2#32
  let v202 : BitVec 32 := Scalar.muli v1 c2_i32_184
  let v203 : BitVec 32 := Scalar.addi v202 c0_i32_185
  let c1240_i32 : BitVec 32 := 1240#32
  let c0_i32_188 : BitVec 32 := 0#32
  ![v203.toNat, 1240, 0]
def k0_off20 (i : grid0.Coords) (c0_i32_200 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_199 : BitVec 32 := 2#32
  let v218 : BitVec 32 := Scalar.muli v1 c2_i32_199
  let v219 : BitVec 32 := Scalar.addi v218 c0_i32_200
  let c2248_i32 : BitVec 32 := 2248#32
  let c0_i32_205 : BitVec 32 := 0#32
  ![v219.toNat, 2248, 0]
def k0_off21 (i : grid0.Coords) (c0_i32_215 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_214 : BitVec 32 := 2#32
  let v234 : BitVec 32 := Scalar.muli v1 c2_i32_214
  let v235 : BitVec 32 := Scalar.addi v234 c0_i32_215
  let c1488_i32 : BitVec 32 := 1488#32
  let c0_i32_218 : BitVec 32 := 0#32
  ![v235.toNat, 1488, 0]
def k0_off22 (i : grid0.Coords) (c0_i32_230 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_229 : BitVec 32 := 2#32
  let v250 : BitVec 32 := Scalar.muli v1 c2_i32_229
  let v251 : BitVec 32 := Scalar.addi v250 c0_i32_230
  let c2496_i32 : BitVec 32 := 2496#32
  let c0_i32_235 : BitVec 32 := 0#32
  ![v251.toNat, 2496, 0]
def k0_off23 (i : grid0.Coords) (c0_i32_245 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_244 : BitVec 32 := 2#32
  let v266 : BitVec 32 := Scalar.muli v1 c2_i32_244
  let v267 : BitVec 32 := Scalar.addi v266 c0_i32_245
  let c1736_i32 : BitVec 32 := 1736#32
  let c0_i32_248 : BitVec 32 := 0#32
  ![v267.toNat, 1736, 0]
def k0_off24 (i : grid0.Coords) (c0_i32_260 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_259 : BitVec 32 := 2#32
  let v282 : BitVec 32 := Scalar.muli v1 c2_i32_259
  let v283 : BitVec 32 := Scalar.addi v282 c0_i32_260
  let c2744_i32 : BitVec 32 := 2744#32
  let c0_i32_265 : BitVec 32 := 0#32
  ![v283.toNat, 2744, 0]
def k0_off25 (i : grid0.Coords) (c0_i32_275 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_274 : BitVec 32 := 2#32
  let v298 : BitVec 32 := Scalar.muli v1 c2_i32_274
  let v299 : BitVec 32 := Scalar.addi v298 c0_i32_275
  let c1984_i32 : BitVec 32 := 1984#32
  let c0_i32_278 : BitVec 32 := 0#32
  ![v299.toNat, 1984, 0]
def k0_off26 (i : grid0.Coords) (c0_i32_290 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_289 : BitVec 32 := 2#32
  let v314 : BitVec 32 := Scalar.muli v1 c2_i32_289
  let v315 : BitVec 32 := Scalar.addi v314 c0_i32_290
  let c2992_i32 : BitVec 32 := 2992#32
  let c0_i32_295 : BitVec 32 := 0#32
  ![v315.toNat, 2992, 0]
def k0_off27 (i : grid0.Coords) (c0_i32_305 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_304 : BitVec 32 := 2#32
  let v330 : BitVec 32 := Scalar.muli v1 c2_i32_304
  let v331 : BitVec 32 := Scalar.addi v330 c0_i32_305
  let c2232_i32 : BitVec 32 := 2232#32
  let c0_i32_308 : BitVec 32 := 0#32
  ![v331.toNat, 2232, 0]
def k0_off28 (i : grid0.Coords) (c0_i32_320 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_319 : BitVec 32 := 2#32
  let v346 : BitVec 32 := Scalar.muli v1 c2_i32_319
  let v347 : BitVec 32 := Scalar.addi v346 c0_i32_320
  let c3240_i32 : BitVec 32 := 3240#32
  let c0_i32_325 : BitVec 32 := 0#32
  ![v347.toNat, 3240, 0]
def k0_off29 (i : grid0.Coords) (c0_i32_335 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_334 : BitVec 32 := 2#32
  let v362 : BitVec 32 := Scalar.muli v1 c2_i32_334
  let v363 : BitVec 32 := Scalar.addi v362 c0_i32_335
  let c2480_i32 : BitVec 32 := 2480#32
  let c0_i32_338 : BitVec 32 := 0#32
  ![v363.toNat, 2480, 0]
def k0_off30 (i : grid0.Coords) (c0_i32_350 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_349 : BitVec 32 := 2#32
  let v378 : BitVec 32 := Scalar.muli v1 c2_i32_349
  let v379 : BitVec 32 := Scalar.addi v378 c0_i32_350
  let c3488_i32 : BitVec 32 := 3488#32
  let c0_i32_355 : BitVec 32 := 0#32
  ![v379.toNat, 3488, 0]
def k0_off31 (i : grid0.Coords) (c0_i32_365 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_364 : BitVec 32 := 2#32
  let v394 : BitVec 32 := Scalar.muli v1 c2_i32_364
  let v395 : BitVec 32 := Scalar.addi v394 c0_i32_365
  let c2728_i32 : BitVec 32 := 2728#32
  let c0_i32_368 : BitVec 32 := 0#32
  ![v395.toNat, 2728, 0]
def k0_off32 (i : grid0.Coords) (c0_i32_380 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_379 : BitVec 32 := 2#32
  let v410 : BitVec 32 := Scalar.muli v1 c2_i32_379
  let v411 : BitVec 32 := Scalar.addi v410 c0_i32_380
  let c3736_i32 : BitVec 32 := 3736#32
  let c0_i32_385 : BitVec 32 := 0#32
  ![v411.toNat, 3736, 0]
def k0_off33 (i : grid0.Coords) (c0_i32_395 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_394 : BitVec 32 := 2#32
  let v426 : BitVec 32 := Scalar.muli v1 c2_i32_394
  let v427 : BitVec 32 := Scalar.addi v426 c0_i32_395
  let c2976_i32 : BitVec 32 := 2976#32
  let c0_i32_398 : BitVec 32 := 0#32
  ![v427.toNat, 2976, 0]
def k0_off34 (i : grid0.Coords) (c0_i32_410 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_409 : BitVec 32 := 2#32
  let v442 : BitVec 32 := Scalar.muli v1 c2_i32_409
  let v443 : BitVec 32 := Scalar.addi v442 c0_i32_410
  let c3984_i32 : BitVec 32 := 3984#32
  let c0_i32_415 : BitVec 32 := 0#32
  ![v443.toNat, 3984, 0]
def k0_off35 (i : grid0.Coords) (c0_i32_425 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_424 : BitVec 32 := 2#32
  let v458 : BitVec 32 := Scalar.muli v1 c2_i32_424
  let v459 : BitVec 32 := Scalar.addi v458 c0_i32_425
  let c3224_i32 : BitVec 32 := 3224#32
  let c0_i32_428 : BitVec 32 := 0#32
  ![v459.toNat, 3224, 0]
def k0_off36 (i : grid0.Coords) (c0_i32_440 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_439 : BitVec 32 := 2#32
  let v474 : BitVec 32 := Scalar.muli v1 c2_i32_439
  let v475 : BitVec 32 := Scalar.addi v474 c0_i32_440
  let c4232_i32 : BitVec 32 := 4232#32
  let c0_i32_445 : BitVec 32 := 0#32
  ![v475.toNat, 4232, 0]
def k0_off37 (i : grid0.Coords) (c0_i32_455 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_454 : BitVec 32 := 2#32
  let v490 : BitVec 32 := Scalar.muli v1 c2_i32_454
  let v491 : BitVec 32 := Scalar.addi v490 c0_i32_455
  let c3472_i32 : BitVec 32 := 3472#32
  let c0_i32_458 : BitVec 32 := 0#32
  ![v491.toNat, 3472, 0]
def k0_off38 (i : grid0.Coords) (c0_i32_470 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_469 : BitVec 32 := 2#32
  let v506 : BitVec 32 := Scalar.muli v1 c2_i32_469
  let v507 : BitVec 32 := Scalar.addi v506 c0_i32_470
  let c4480_i32 : BitVec 32 := 4480#32
  let c0_i32_475 : BitVec 32 := 0#32
  ![v507.toNat, 4480, 0]
def k0_off39 (i : grid0.Coords) (c0_i32_485 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_484 : BitVec 32 := 2#32
  let v522 : BitVec 32 := Scalar.muli v1 c2_i32_484
  let v523 : BitVec 32 := Scalar.addi v522 c0_i32_485
  let c3720_i32 : BitVec 32 := 3720#32
  let c0_i32_488 : BitVec 32 := 0#32
  ![v523.toNat, 3720, 0]
def k0_off40 (i : grid0.Coords) (c0_i32_500 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_499 : BitVec 32 := 2#32
  let v538 : BitVec 32 := Scalar.muli v1 c2_i32_499
  let v539 : BitVec 32 := Scalar.addi v538 c0_i32_500
  let c4728_i32 : BitVec 32 := 4728#32
  let c0_i32_505 : BitVec 32 := 0#32
  ![v539.toNat, 4728, 0]
def k0_off41 (i : grid0.Coords) (c0_i32_515 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_514 : BitVec 32 := 2#32
  let v554 : BitVec 32 := Scalar.muli v1 c2_i32_514
  let v555 : BitVec 32 := Scalar.addi v554 c0_i32_515
  let c3968_i32 : BitVec 32 := 3968#32
  let c0_i32_518 : BitVec 32 := 0#32
  ![v555.toNat, 3968, 0]
def k0_off42 (i : grid0.Coords) (c0_i32_530 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_529 : BitVec 32 := 2#32
  let v570 : BitVec 32 := Scalar.muli v1 c2_i32_529
  let v571 : BitVec 32 := Scalar.addi v570 c0_i32_530
  let c4976_i32 : BitVec 32 := 4976#32
  let c0_i32_535 : BitVec 32 := 0#32
  ![v571.toNat, 4976, 0]
def k0_off43 (i : grid0.Coords) (c0_i32_545 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_544 : BitVec 32 := 2#32
  let v586 : BitVec 32 := Scalar.muli v1 c2_i32_544
  let v587 : BitVec 32 := Scalar.addi v586 c0_i32_545
  let c4216_i32 : BitVec 32 := 4216#32
  let c0_i32_548 : BitVec 32 := 0#32
  ![v587.toNat, 4216, 0]
def k0_off44 (i : grid0.Coords) (c0_i32_560 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_559 : BitVec 32 := 2#32
  let v602 : BitVec 32 := Scalar.muli v1 c2_i32_559
  let v603 : BitVec 32 := Scalar.addi v602 c0_i32_560
  let c5224_i32 : BitVec 32 := 5224#32
  let c0_i32_565 : BitVec 32 := 0#32
  ![v603.toNat, 5224, 0]
def k0_off45 (i : grid0.Coords) (c0_i32_575 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_574 : BitVec 32 := 2#32
  let v618 : BitVec 32 := Scalar.muli v1 c2_i32_574
  let v619 : BitVec 32 := Scalar.addi v618 c0_i32_575
  let c4464_i32 : BitVec 32 := 4464#32
  let c0_i32_578 : BitVec 32 := 0#32
  ![v619.toNat, 4464, 0]
def k0_off46 (i : grid0.Coords) (c0_i32_590 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_589 : BitVec 32 := 2#32
  let v634 : BitVec 32 := Scalar.muli v1 c2_i32_589
  let v635 : BitVec 32 := Scalar.addi v634 c0_i32_590
  let c5472_i32 : BitVec 32 := 5472#32
  let c0_i32_595 : BitVec 32 := 0#32
  ![v635.toNat, 5472, 0]
def k0_off47 (i : grid0.Coords) (c0_i32_605 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_604 : BitVec 32 := 2#32
  let v650 : BitVec 32 := Scalar.muli v1 c2_i32_604
  let v651 : BitVec 32 := Scalar.addi v650 c0_i32_605
  let c4712_i32 : BitVec 32 := 4712#32
  let c0_i32_608 : BitVec 32 := 0#32
  ![v651.toNat, 4712, 0]
def k0_off48 (i : grid0.Coords) (c0_i32_620 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_619 : BitVec 32 := 2#32
  let v666 : BitVec 32 := Scalar.muli v1 c2_i32_619
  let v667 : BitVec 32 := Scalar.addi v666 c0_i32_620
  let c5720_i32 : BitVec 32 := 5720#32
  let c0_i32_625 : BitVec 32 := 0#32
  ![v667.toNat, 5720, 0]
def k0_off49 (i : grid0.Coords) (c0_i32_635 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_634 : BitVec 32 := 2#32
  let v682 : BitVec 32 := Scalar.muli v1 c2_i32_634
  let v683 : BitVec 32 := Scalar.addi v682 c0_i32_635
  let c4960_i32 : BitVec 32 := 4960#32
  let c0_i32_638 : BitVec 32 := 0#32
  ![v683.toNat, 4960, 0]
def k0_off50 (i : grid0.Coords) (c0_i32_650 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_649 : BitVec 32 := 2#32
  let v698 : BitVec 32 := Scalar.muli v1 c2_i32_649
  let v699 : BitVec 32 := Scalar.addi v698 c0_i32_650
  let c5968_i32 : BitVec 32 := 5968#32
  let c0_i32_655 : BitVec 32 := 0#32
  ![v699.toNat, 5968, 0]
def k0_off51 (i : grid0.Coords) (c0_i32_665 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_664 : BitVec 32 := 2#32
  let v714 : BitVec 32 := Scalar.muli v1 c2_i32_664
  let v715 : BitVec 32 := Scalar.addi v714 c0_i32_665
  let c5208_i32 : BitVec 32 := 5208#32
  let c0_i32_668 : BitVec 32 := 0#32
  ![v715.toNat, 5208, 0]
def k0_off52 (i : grid0.Coords) (c0_i32_680 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_679 : BitVec 32 := 2#32
  let v730 : BitVec 32 := Scalar.muli v1 c2_i32_679
  let v731 : BitVec 32 := Scalar.addi v730 c0_i32_680
  let c6216_i32 : BitVec 32 := 6216#32
  let c0_i32_685 : BitVec 32 := 0#32
  ![v731.toNat, 6216, 0]
def k0_off53 (i : grid0.Coords) (c0_i32_695 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_694 : BitVec 32 := 2#32
  let v746 : BitVec 32 := Scalar.muli v1 c2_i32_694
  let v747 : BitVec 32 := Scalar.addi v746 c0_i32_695
  let c5456_i32 : BitVec 32 := 5456#32
  let c0_i32_698 : BitVec 32 := 0#32
  ![v747.toNat, 5456, 0]
def k0_off54 (i : grid0.Coords) (c0_i32_710 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_709 : BitVec 32 := 2#32
  let v762 : BitVec 32 := Scalar.muli v1 c2_i32_709
  let v763 : BitVec 32 := Scalar.addi v762 c0_i32_710
  let c6464_i32 : BitVec 32 := 6464#32
  let c0_i32_715 : BitVec 32 := 0#32
  ![v763.toNat, 6464, 0]
def k0_off55 (i : grid0.Coords) (c0_i32_725 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_724 : BitVec 32 := 2#32
  let v778 : BitVec 32 := Scalar.muli v1 c2_i32_724
  let v779 : BitVec 32 := Scalar.addi v778 c0_i32_725
  let c5704_i32 : BitVec 32 := 5704#32
  let c0_i32_728 : BitVec 32 := 0#32
  ![v779.toNat, 5704, 0]
def k0_off56 (i : grid0.Coords) (c0_i32_740 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_739 : BitVec 32 := 2#32
  let v794 : BitVec 32 := Scalar.muli v1 c2_i32_739
  let v795 : BitVec 32 := Scalar.addi v794 c0_i32_740
  let c6712_i32 : BitVec 32 := 6712#32
  let c0_i32_745 : BitVec 32 := 0#32
  ![v795.toNat, 6712, 0]
def k0_off57 (i : grid0.Coords) (c0_i32_755 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_754 : BitVec 32 := 2#32
  let v810 : BitVec 32 := Scalar.muli v1 c2_i32_754
  let v811 : BitVec 32 := Scalar.addi v810 c0_i32_755
  let c5952_i32 : BitVec 32 := 5952#32
  let c0_i32_758 : BitVec 32 := 0#32
  ![v811.toNat, 5952, 0]
def k0_off58 (i : grid0.Coords) (c0_i32_770 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_769 : BitVec 32 := 2#32
  let v826 : BitVec 32 := Scalar.muli v1 c2_i32_769
  let v827 : BitVec 32 := Scalar.addi v826 c0_i32_770
  let c6960_i32 : BitVec 32 := 6960#32
  let c0_i32_775 : BitVec 32 := 0#32
  ![v827.toNat, 6960, 0]
def k0_off59 (i : grid0.Coords) (c0_i32_785 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_784 : BitVec 32 := 2#32
  let v842 : BitVec 32 := Scalar.muli v1 c2_i32_784
  let v843 : BitVec 32 := Scalar.addi v842 c0_i32_785
  let c6200_i32 : BitVec 32 := 6200#32
  let c0_i32_788 : BitVec 32 := 0#32
  ![v843.toNat, 6200, 0]
def k0_off60 (i : grid0.Coords) (c0_i32_800 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_799 : BitVec 32 := 2#32
  let v858 : BitVec 32 := Scalar.muli v1 c2_i32_799
  let v859 : BitVec 32 := Scalar.addi v858 c0_i32_800
  let c7208_i32 : BitVec 32 := 7208#32
  let c0_i32_805 : BitVec 32 := 0#32
  ![v859.toNat, 7208, 0]
def k0_off61 (i : grid0.Coords) (c0_i32_815 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_814 : BitVec 32 := 2#32
  let v874 : BitVec 32 := Scalar.muli v1 c2_i32_814
  let v875 : BitVec 32 := Scalar.addi v874 c0_i32_815
  let c6448_i32 : BitVec 32 := 6448#32
  let c0_i32_818 : BitVec 32 := 0#32
  ![v875.toNat, 6448, 0]
def k0_off62 (i : grid0.Coords) (c0_i32_830 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_829 : BitVec 32 := 2#32
  let v890 : BitVec 32 := Scalar.muli v1 c2_i32_829
  let v891 : BitVec 32 := Scalar.addi v890 c0_i32_830
  let c7456_i32 : BitVec 32 := 7456#32
  let c0_i32_835 : BitVec 32 := 0#32
  ![v891.toNat, 7456, 0]
def k0_off63 (i : grid0.Coords) (c0_i32_845 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_844 : BitVec 32 := 2#32
  let v906 : BitVec 32 := Scalar.muli v1 c2_i32_844
  let v907 : BitVec 32 := Scalar.addi v906 c0_i32_845
  let c6696_i32 : BitVec 32 := 6696#32
  let c0_i32_848 : BitVec 32 := 0#32
  ![v907.toNat, 6696, 0]
def k0_off64 (i : grid0.Coords) (c0_i32_860 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_859 : BitVec 32 := 2#32
  let v922 : BitVec 32 := Scalar.muli v1 c2_i32_859
  let v923 : BitVec 32 := Scalar.addi v922 c0_i32_860
  let c7704_i32 : BitVec 32 := 7704#32
  let c0_i32_865 : BitVec 32 := 0#32
  ![v923.toNat, 7704, 0]
def k0_off65 (i : grid0.Coords) (c0_i32_875 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_874 : BitVec 32 := 2#32
  let v938 : BitVec 32 := Scalar.muli v1 c2_i32_874
  let v939 : BitVec 32 := Scalar.addi v938 c0_i32_875
  let c6944_i32 : BitVec 32 := 6944#32
  let c0_i32_878 : BitVec 32 := 0#32
  ![v939.toNat, 6944, 0]
def k0_off66 (i : grid0.Coords) : Fin 4 → Nat :=
  let arg1 : BitVec 32 := BitVec.ofNat 32 (i 1).val
  let c0_i32_891 : BitVec 32 := 0#32
  let c0_i32_892 : BitVec 32 := 0#32
  let c0_i32_893 : BitVec 32 := 0#32
  ![arg1.toNat, 0, 0, 0]
def k0_off67 (i : grid0.Coords) (c0_i32_890 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_889 : BitVec 32 := 2#32
  let v954 : BitVec 32 := Scalar.muli v1 c2_i32_889
  let v955 : BitVec 32 := Scalar.addi v954 c0_i32_890
  let c7952_i32 : BitVec 32 := 7952#32
  let c0_i32_894 : BitVec 32 := 0#32
  ![v955.toNat, 7952, 0]
def k0_off68 (i : grid0.Coords) (c0_i32_904 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_903 : BitVec 32 := 2#32
  let v968 : BitVec 32 := Scalar.muli v1 c2_i32_903
  let v969 : BitVec 32 := Scalar.addi v968 c0_i32_904
  let c7192_i32 : BitVec 32 := 7192#32
  let c0_i32_907 : BitVec 32 := 0#32
  ![v969.toNat, 7192, 0]
def k0_off69 (i : grid0.Coords) : Fin 4 → Nat :=
  let arg1 : BitVec 32 := BitVec.ofNat 32 (i 1).val
  let c1_i32_920 : BitVec 32 := 1#32
  let c0_i32_921 : BitVec 32 := 0#32
  let c0_i32_922 : BitVec 32 := 0#32
  ![arg1.toNat, 1, 0, 0]
def k0_off70 (i : grid0.Coords) (c0_i32_919 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_918 : BitVec 32 := 2#32
  let v984 : BitVec 32 := Scalar.muli v1 c2_i32_918
  let v985 : BitVec 32 := Scalar.addi v984 c0_i32_919
  let c0_i32_923 : BitVec 32 := 0#32
  let c0_i32_924 : BitVec 32 := 0#32
  ![v985.toNat, 0, 0]
def k0_off71 (i : grid0.Coords) (c0_i32_934 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_933 : BitVec 32 := 2#32
  let v998 : BitVec 32 := Scalar.muli v1 c2_i32_933
  let v999 : BitVec 32 := Scalar.addi v998 c0_i32_934
  let c7440_i32 : BitVec 32 := 7440#32
  let c0_i32_937 : BitVec 32 := 0#32
  ![v999.toNat, 7440, 0]
def k0_off72 (i : grid0.Coords) (c0_i32_965 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_964 : BitVec 32 := 2#32
  let v1030 : BitVec 32 := Scalar.muli v1 c2_i32_964
  let v1031 : BitVec 32 := Scalar.addi v1030 c0_i32_965
  let c7688_i32 : BitVec 32 := 7688#32
  let c0_i32_968 : BitVec 32 := 0#32
  ![v1031.toNat, 7688, 0]
def k0_off73 (i : grid0.Coords) (c0_i32_995 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_994 : BitVec 32 := 2#32
  let v1060 : BitVec 32 := Scalar.muli v1 c2_i32_994
  let v1061 : BitVec 32 := Scalar.addi v1060 c0_i32_995
  let c7936_i32 : BitVec 32 := 7936#32
  let c0_i32_997 : BitVec 32 := 0#32
  ![v1061.toNat, 7936, 0]
def k0_off74 (i : grid0.Coords) (c0_i32_1023 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_1022 : BitVec 32 := 2#32
  let v1086 : BitVec 32 := Scalar.muli v1 c2_i32_1022
  let v1087 : BitVec 32 := Scalar.addi v1086 c0_i32_1023
  let c8176_i32 : BitVec 32 := 8176#32
  let c0_i32_1025 : BitVec 32 := 0#32
  ![v1087.toNat, 8176, 0]
def k0_off75 (i : grid0.Coords) : Fin 4 → Nat :=
  let arg1 : BitVec 32 := BitVec.ofNat 32 (i 1).val
  let c2_i32_1965 : BitVec 32 := 2#32
  let c0_i32_1966 : BitVec 32 := 0#32
  let c0_i32_1967 : BitVec 32 := 0#32
  ![arg1.toNat, 2, 0, 0]
def k0_off76 (i : grid0.Coords) : Fin 4 → Nat :=
  let arg1 : BitVec 32 := BitVec.ofNat 32 (i 1).val
  let c3_i32_1996 : BitVec 32 := 3#32
  let c0_i32_1997 : BitVec 32 := 0#32
  let c0_i32_1998 : BitVec 32 := 0#32
  ![arg1.toNat, 3, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192x128 : Shape := ⟨3, ![64, 8192, 128]⟩
abbrev S64x16x128 : Shape := ⟨3, ![64, 16, 128]⟩
abbrev S64x8176x128 : Shape := ⟨3, ![64, 8176, 128]⟩
abbrev S_ : Shape := ⟨0, ![]⟩
abbrev S1 : Shape := ⟨1, ![1]⟩

abbrev nBuf : Space → Nat
  | .hbm => 8
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S64x16x128, .f32⟩
  | .hbm, ⟨2, _⟩ => ⟨S64x8176x128, .f32⟩
  | .hbm, ⟨3, _⟩ => ⟨S64x16x128, .f32⟩
  | .hbm, ⟨4, _⟩ => ⟨S64x8192x128, .f32⟩
  | .hbm, ⟨5, _⟩ => ⟨S_, .i32⟩
  | .hbm, ⟨6, _⟩ => ⟨S1, .i32⟩
  | .hbm, ⟨7, _⟩ => ⟨S64x8192x128, .f32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Value.lean ====
/-
  The result, index by index: the cache's rows moved up by sixteen, the update in the rows that frees; and the reference's term is
  that function.
-/
module

public import proofs.«01_k».proof.Proof.Gen.ReferenceIdeal.Run
public import Idealize.ShloMosaic.Lib.Pipeline.Value
public import Idealize.ShloMosaic.Lib.ValueIdxCoords
public import Idealize.ShloMosaic.Lib.Routing.OpsSet
public import Idealize.ShloMosaic.Lib.Routing.OpsPair

@[expose] public section

noncomputable section

namespace Cert.Proof.Value

open Idealize.ShloMosaic Idealize.ShloMosaic.ValueIdx

/-- The shapes of the cache and of the update. -/
abbrev SC : Shape := ⟨3, ![64, 8192, 128]⟩
abbrev SU : Shape := ⟨3, ![64, 16, 128]⟩

variable {α : Type} (a : SC.Idx → α) (u : SU.Idx → α)

/-- A batch has 8192 rows. -/
theorem row_lt (i : SC.Idx) : (i 1).val < 8192 := (i 1).isLt

/-- The result: row `r` of a batch is the cache's row `r + 16`, and the last sixteen rows are the update's. -/
def moved : SC.Idx → α := fun i =>
  if h : (i 1).val < 8176 then a (ix3 (i 0) ⟨(i 1).val + 16, by omega⟩ (i 2))
  else u (ix3 (i 0) ⟨(i 1).val - 8176, by have := row_lt i; omega⟩ (i 2))

/-- Indices with the same coordinates are the same. -/
theorem idx_ext {s : Shape} {i k : s.Idx} (h : ∀ x, (i x).val = (k x).val) : i = k := funext fun x => Fin.ext (h x)

variable {a u}

/-- A row of the result that comes from the cache. -/
theorem moved_cache {i k : SC.Idx} (h : (i 1).val < 8176) (h0 : (k 0).val = (i 0).val) (h1 : (k 1).val = (i 1).val + 16)
    (h2 : (k 2).val = (i 2).val) : moved a u i = a k := by
  unfold moved
  rw [dif_pos h]
  exact congrArg a (idx_ext fun x => match x with
    | 0 => h0.symm
    | 1 => h1.symm
    | 2 => h2.symm)

/-- A row of the result that comes from the update. -/
theorem moved_update {i : SC.Idx} {k : SU.Idx} (h0 : (k 0).val = (i 0).val) (h1 : 8176 + (k 1).val = (i 1).val)
    (h2 : (k 2).val = (i 2).val) : moved a u i = u k := by
  unfold moved
  rw [dif_neg (by omega)]
  exact congrArg u (idx_ext fun x => match x with
    | 0 => h0.symm
    | 1 => show (i 1).val - 8176 = (k 1).val by omega
    | 2 => h2.symm)

/-! ## The reference -/

section Reference

open Cert.ReferenceIdeal Cert.ReferenceIdeal.Gen

/-- The scatter's dimension numbers, and its one index. -/
abbrev sd : ScatterDims S64x8192x128 S1 S64x16x128 := scatter_S64x8192x128_S1_S64x16x128_012_n_1_0
/-- The row from which the update goes. -/
abbrev at8176 : IVec S1 32 := broadcastInDim S1 ![] bcast_S_S1 (constantI S_ 32 8176#32)

/-- Update `k` lands in its own batch and column, 8176 rows further down. -/
theorem lands (k : SU.Idx) (i : SC.Idx) :
    sd.resultIdx? k at8176 = some i ↔ (k 0).val = (i 0).val ∧ 8176 + (k 1).val = (i 1).val ∧ (k 2).val = (i 2).val := by
  rw [Routing.resultIdx?_eq_some]
  have s0 : sd.start k at8176 0 = 0 := rfl
  have s1 : sd.start k at8176 1 = 8176 := rfl
  have s2 : sd.start k at8176 2 = 0 := rfl
  have w0 : sd.window k 0 = (k 0).val := rfl
  have w1 : sd.window k 1 = (k 1).val := rfl
  have w2 : sd.window k 2 = (k 2).val := rfl
  constructor
  · intro h
    have h0 := h 0; have h1 := h 1; have h2 := h 2
    rw [s0, w0] at h0; rw [s1, w1] at h1; rw [s2, w2] at h2
    omega
  · rintro ⟨h0, h1, h2⟩ x
    match x with
    | 0 => rw [s0, w0]; omega
    | 1 => rw [s1, w1]; omega
    | 2 => rw [s2, w2]; omega

/-- The cache's rows turned by sixteen, as the reference has them before the scatter. -/
abbrev rolled (a : SC.Idx → α) : SC.Idx → α :=
  concatenate S64x8192x128 1 [⟨S64x8176x128, extractStridedSlice S64x8176x128 ![0, 16, 0] a slices_S64x8192x128_S64x8176x128_0_16_0⟩,
    ⟨S64x16x128, extractStridedSlice S64x16x128 ![0, 0, 0] a slices_S64x8192x128_S64x16x128_0_0_0⟩]
    concatenates_S64x8176x128_S64x16x128_S64x8192x128_d1

/-- Above the last sixteen rows they are the cache's, sixteen further down. -/
theorem rolled_apply {i k : SC.Idx} (h : (i 1).val < 8176) (h0 : (k 0).val = (i 0).val) (h1 : (k 1).val = (i 1).val + 16)
    (h2 : (k 2).val = (i 2).val) : rolled a i = a k := by
  unfold rolled
  rw [concatenate_pair_apply_left (t := S64x8192x128) (s₁ := S64x8176x128) (s₂ := S64x16x128) 1 _ _ _ i rfl
    (ix3 (i 0) ⟨(i 1).val, h⟩ (i 2)) fun b => match b with
      | 0 => rfl
      | 1 => rfl
      | 2 => rfl]
  exact congrArg a (idx_ext fun x => match x with
    | 0 => show 0 + (i 0).val = (k 0).val by omega
    | 1 => show 16 + (i 1).val = (k 1).val by omega
    | 2 => show 0 + (i 2).val = (k 2).val by omega)

/-- The reference's result is `moved`. -/
theorem reference_eq (a : SC.Idx → α) (u : SU.Idx → α) : Host.scatter sd (fun _ b => b) (rolled a) at8176 u = moved a u := by
  funext i
  have hi := row_lt i
  by_cases h : (i 1).val < 8176
  · rw [Routing.scatter_set_miss _ _ _ _ _ fun k hk => by have := ((lands k i).1 hk).2.1; omega]
    rw [rolled_apply (k := ix3 (i 0) ⟨(i 1).val + 16, by omega⟩ (i 2)) h rfl rfl rfl,
      moved_cache (k := ix3 (i 0) ⟨(i 1).val + 16, by omega⟩ (i 2)) h rfl rfl rfl]
  · refine Routing.scatter_set_hit _ _ _ _ _ _ (fun k hk => ?_) (ix3 (i 0) ⟨(i 1).val - 8176, by omega⟩ (i 2))
      ((lands _ i).2 ⟨rfl, show 8176 + ((i 1).val - 8176) = (i 1).val by omega, rfl⟩)
    obtain ⟨h0, h1, h2⟩ := (lands k i).1 hk
    exact (moved_update h0 h1 h2).symm

end Reference

end Cert.Proof.Value

end
-- ==== Proof.Jobs.lean ====
/-
  The kernel's body as a list of COPY JOBS. A tile serves two batches; each batch takes 34 jobs: 32 chunks of 248 rows and a
  tail of 240 rows out of the cache (shifted by 16 rows), then the 16 rows of the update. Job `j` goes through slot `j % 4` of
  the tile's quarter of the SparseCore's shared memory. This file names each job's source, slot, destination and semaphores
  as functions of `j`, writes the body's schedule over them, and shows the printed body IS that schedule.
-/
module

public import proofs.«01_k».proof.Proof.Gen.KernelIdeal

@[expose] public section

noncomputable section

namespace Cert.Proof.Jobs

open Cert.KernelIdeal Cert.KernelIdeal.Gen
open Idealize.ShloMosaic Idealize.SL.Sem

variable {F : FTy → Type} [FloatOps F]

/-! ## The jobs' numbers -/

/-- The place of job `j` within its batch's 34. -/
def kOf (j : ℕ) : ℕ := j % 34
/-- The rows job `j` copies. -/
def rows (j : ℕ) : ℕ := if kOf j < 32 then 248 else if kOf j < 33 then 240 else 16
/-- The first row of the result it writes. -/
def dstRow (j : ℕ) : ℕ := if kOf j < 33 then 248 * kOf j else 8176
/-- The first row of the cache it reads. -/
def srcRow (j : ℕ) : ℕ := 248 * kOf j + 16

/-- A job moves a full chunk, a tail, or the update. -/
theorem rows_cases (j : ℕ) : rows j = 248 ∨ rows j = 240 ∨ rows j = 16 := by
  unfold rows; split <;> [exact .inl rfl; (split <;> [exact .inr (.inl rfl); exact .inr (.inr rfl)])]

/-- Shapes of `r` rows of 128 words: bare, as a block of a batch array, as a block of the shared memory. -/
abbrev Sr (r : ℕ) : Shape := ⟨2, ![r, 128]⟩
/-- The shape of `r` rows of one batch. -/
abbrev S1r (r : ℕ) : Shape := ⟨3, ![1, r, 128]⟩
/-- The shape of `r` rows of one slot. -/
abbrev S11r (r : ℕ) : Shape := ⟨4, ![1, 1, r, 128]⟩

/-- Rows of one batch read as a matrix. -/
theorem sq1 (j : ℕ) : (S1r (rows j)).Squeezes (Sr (rows j)) := by
  rcases rows_cases j with h | h | h <;> rw [h] <;> decide
/-- Rows of one slot read as a matrix. -/
theorem sq11 (j : ℕ) : (S11r (rows j)).Squeezes (Sr (rows j)) := by
  rcases rows_cases j with h | h | h <;> rw [h] <;> decide

/-! ## The tile's batches -/

/-- The batch of job `j` of the tile at `L`, as the kernel computes it. -/
def batch (L : grid0.Coords) (j : ℕ) : ℕ :=
  (Scalar.addi (Scalar.muli (Scalar.addi (Scalar.muli (BitVec.ofNat 32 (L 0).val) 16#32) (BitVec.ofNat 32 (L 1).val)) 2#32) (BitVec.ofNat 32 (j / 34))).toNat
/-- The tile's own number within its SparseCore. -/
def tileNo (L : grid0.Coords) : ℕ := (BitVec.ofNat 32 (L 1).val).toNat

/-- The batch that the program computes from the tile's coordinates, in numbers. -/
theorem batch_eq₂ : ∀ L : grid0.Coords, ∀ b : Fin 2,
    (Scalar.addi (Scalar.muli (Scalar.addi (Scalar.muli (BitVec.ofNat 32 (L 0).val) 16#32) (BitVec.ofNat 32 (L 1).val)) 2#32) (BitVec.ofNat 32 b.val)).toNat
      = 2 * (16 * (L 0).val + (L 1).val) + b.val := by decide +kernel
/-- which is batch `2 w + j / 34` of tile number `w = 16 c + s`. -/
theorem batch_eq (L : grid0.Coords) (j : ℕ) (hj : j < 68) : batch L j = 2 * (16 * (L 0).val + (L 1).val) + j / 34 :=
  batch_eq₂ L ⟨j / 34, by omega⟩
/-- A tile's number is its second coordinate. -/
theorem tileNo_eq : ∀ L : grid0.Coords, tileNo L = (L 1).val := by decide +kernel

/-- There are two SparseCores. -/
theorem L0_lt (L : grid0.Coords) : (L 0).val < 2 := (L 0).isLt
/-- There are sixteen tiles on each. -/
theorem L1_lt (L : grid0.Coords) : (L 1).val < 16 := (L 1).isLt
/-- A job works on one of the 64 batches. -/
theorem batch_lt (L : grid0.Coords) (j : ℕ) (hj : j < 68) : batch L j < 64 := by
  have := batch_eq L j hj; have := L0_lt L; have := L1_lt L; omega

/-- The rows a job writes lie in the result. -/
theorem dst_fits (j : ℕ) : dstRow j + rows j ≤ 8192 := by
  have : kOf j < 34 := Nat.mod_lt _ (by decide)
  unfold dstRow rows; split <;> (try split) <;> omega
/-- The rows it reads of the cache lie in the cache. -/
theorem src_fits (j : ℕ) (h : kOf j < 33) : srcRow j + rows j ≤ 8192 := by
  unfold srcRow rows; split <;> (try split) <;> omega
/-- A job moves at most as many rows as a slot has. -/
theorem rows_le (j : ℕ) : rows j ≤ 248 := by rcases rows_cases j with h | h | h <;> omega

/-- The view a job writes lies in the result. -/
theorem dst_inb (L : grid0.Coords) (j : Fin 68) : ∀ a, (![batch L j, dstRow j, 0] : Fin 3 → ℕ) a + (S1r (rows j)).size a ≤ S64x8192x128.size a := by
  have h1 := batch_lt L j j.isLt; have h2 := dst_fits j.val
  intro a; match a with
  | 0 => show batch L j + 1 ≤ 64; omega
  | 1 => exact h2
  | 2 => show 0 + 128 ≤ 128; omega
/-- The view it reads of the cache lies in the cache. -/
theorem src_inb (L : grid0.Coords) (j : Fin 68) (h : kOf j < 33) :
    ∀ a, (![batch L j, srcRow j, 0] : Fin 3 → ℕ) a + (S1r (rows j)).size a ≤ S64x8192x128.size a := by
  have h1 := batch_lt L j j.isLt; have h2 := src_fits j.val h
  intro a; match a with
  | 0 => show batch L j + 1 ≤ 64; omega
  | 1 => exact h2
  | 2 => show 0 + 128 ≤ 128; omega
/-- The view it reads of the update lies in the update. -/
theorem upd_inb (L : grid0.Coords) (j : Fin 68) (h : ¬ kOf j < 33) :
    ∀ a, (![batch L j, 0, 0] : Fin 3 → ℕ) a + (S1r (rows j)).size a ≤ S64x16x128.size a := by
  have h1 := batch_lt L j j.isLt
  have h2 : rows j = 16 := by unfold rows; rw [if_neg (by omega), if_neg h]
  intro a; match a with
  | 0 => show batch L j + 1 ≤ 64; omega
  | 1 => show 0 + rows j ≤ 16; omega
  | 2 => show 0 + 128 ≤ 128; omega
/-- Its slot lies in the shared memory. -/
theorem slot_inb (L : grid0.Coords) (j : Fin 68) :
    ∀ a, (![tileNo L, j.val % 4, 0, 0] : Fin 4 → ℕ) a + (S11r (rows j)).size a ≤ S16x4x248x128.size a := by
  have h1 := tileNo_eq L; have h2 := L1_lt L; have h3 := rows_le j.val
  intro a; match a with
  | 0 => show tileNo L + 1 ≤ 16; omega
  | 1 => show j.val % 4 + 1 ≤ 4; omega
  | 2 => show 0 + rows j ≤ 248; omega
  | 3 => show 0 + 128 ≤ 128; omega

/-! ## A job's memory -/

/-- The cache, the update, the result and the shared memory, as a tile sees them. -/
abbrev cacheV : Memref sig .scVector .hbm S64x8192x128 .f32 := Memref.whole main_arg0_scv
abbrev updV : Memref sig .scVector .hbm S64x16x128 .f32 := Memref.whole main_arg1_scv
abbrev outV : Memref sig .scVector .hbm S64x8192x128 .f32 := Memref.whole main_v0_scv
abbrev bufV : Memref sig .scVector .shared S16x4x248x128 .f32 := Memref.whole cc0_scratch0

/-- What job `j` reads: rows of the cache, or the update's of its batch. -/
def src (L : grid0.Coords) (j : Fin 68) : Memref sig .scVector .hbm (Sr (rows j)) .f32 :=
  if h : kOf j < 33 then
    (cacheV.slice (Rect.unit (s := S64x8192x128) ![batch L j, srcRow j, 0] (S1r (rows j)).size (src_inb L j h)) (fun _ => rfl)).squeeze (Sr (rows j)) (sq1 j)
  else
    (updV.slice (Rect.unit (s := S64x16x128) ![batch L j, 0, 0] (S1r (rows j)).size (upd_inb L j h)) (fun _ => rfl)).squeeze (Sr (rows j)) (sq1 j)

/-- What it writes: rows of the result. -/
def dst (L : grid0.Coords) (j : Fin 68) : Memref sig .scVector .hbm (Sr (rows j)) .f32 :=
  (outV.slice (Rect.unit (s := S64x8192x128) ![batch L j, dstRow j, 0] (S1r (rows j)).size (dst_inb L j)) (fun _ => rfl)).squeeze (Sr (rows j)) (sq1 j)

/-- What it goes through: the first rows of slot `j % 4` of the tile's part of the shared memory. -/
def slot (L : grid0.Coords) (j : Fin 68) : Memref sig .scVector .shared (Sr (rows j)) .f32 :=
  (bufV.slice (Rect.unit (s := S16x4x248x128) ![tileNo L, j.val % 4, 0, 0] (S11r (rows j)).size (slot_inb L j)) (fun _ => rfl)).squeeze (Sr (rows j)) (sq11 j)

/-- A slot's semaphore is one of the four. -/
theorem sem_inb (j : ℕ) : ∀ a, (![j % 4] : Fin 1 → ℕ) a + S1.size a ≤ S4.size a := by
  intro a; match a with
  | 0 => show j % 4 + 1 ≤ 4; omega

/-- The semaphore of its copy in, -/
def inSem (j : Fin 68) : DmaSem sig :=
  if kOf j < 32 then ((cc0_scratch1.slice (Rect.unit (s := S4) ![j.val % 4] S1.size (sem_inb j))).squeeze S_ squeezes_S1_S_).sem
  else if kOf j < 33 then cc0_scratch3.sem else cc0_scratch5.sem
/-- and of its copy out. -/
def outSem (j : Fin 68) : DmaSem sig :=
  if kOf j < 32 then ((cc0_scratch2.slice (Rect.unit (s := S4) ![j.val % 4] S1.size (sem_inb j))).squeeze S_ squeezes_S1_S_).sem
  else if kOf j < 33 then cc0_scratch4.sem else cc0_scratch6.sem

/-! ## The schedule -/

/-- Programs of the tile at `L`. -/
abbrev TProg (F : FTy → Type) [FloatOps F] (L : grid0.Coords) : Type 1 :=
  Prog (TpuEff nD τ sig (Elt F) Λ₀ (.scVector ((L 0).castLE hcore0) ((L 1).castLE hsub0))) PUnit.{1}

/-- Every view of 32-bit words is word-exact. -/
theorem wx {sp : Space} {s : Shape} (m : Memref sig .scVector sp s .f32) : m.view.WordExact := View.wordExact_bits rfl

variable (L : grid0.Coords)

/-- Start job `j`'s copy in, then `k`. -/
def startIn (j : Fin 68) (k : TProg F L) : TProg F L :=
  .op (.enqueueDma (src L j) (.here (slot L j)) (.dma (inSem j)) (wx _) (wx _) ⟨Or.inl rfl, trivial⟩) fun _ => k
/-- Wait for it. -/
def waitIn (j : Fin 68) (k : TProg F L) : TProg F L :=
  .op (.waitDma2 (inSem j) (src L j) (slot L j) (wx _) (wx _)) fun _ => k
/-- Start job `j`'s copy out. -/
def startOut (j : Fin 68) (k : TProg F L) : TProg F L :=
  .op (.enqueueDma (slot L j) (.here (dst L j)) (.dma (outSem j)) (wx _) (wx _) ⟨Or.inl rfl, trivial⟩) fun _ => k
/-- Wait for it. -/
def waitOut (j : Fin 68) (k : TProg F L) : TProg F L :=
  .op (.waitDma2 (outSem j) (slot L j) (dst L j) (wx _) (wx _)) fun _ => k

/-- Job number `n`. -/
abbrev jb (n : ℕ) : Fin 68 := Fin.ofNat 68 n

/-- The step of the steady state at job `j`: the slot of job `j - 1` is freed for job `j + 3`, and job `j` goes on from in to out. -/
def step (j : ℕ) (k : TProg F L) : TProg F L :=
  waitOut L (jb (j - 1)) (startIn L (jb (j + 3)) (waitIn L (jb j) (startOut L (jb j) k)))

/-- `n` steps from job `j` on. -/
def steps : ℕ → ℕ → TProg F L → TProg F L
  | 0, _, k => k
  | n + 1, j, k => step L j (steps n (j + 1) k)

/-- The last three jobs go from in to out, and every copy out still under way is waited for. -/
def tailEnd : TProg F L :=
  waitIn L (jb 65) (startOut L (jb 65) (waitIn L (jb 66) (startOut L (jb 66) (waitIn L (jb 67) (startOut L (jb 67)
    (waitOut L (jb 64) (waitOut L (jb 65) (waitOut L (jb 66) (waitOut L (jb 67) (.ret ⟨⟩))))))))))

/-- The whole body: the ring is filled, job 0 goes out, 64 steady steps, the end. -/
def body : TProg F L :=
  startIn L (jb 0) (startIn L (jb 1) (startIn L (jb 2) (startIn L (jb 3) (waitIn L (jb 0) (startOut L (jb 0)
    (steps L 64 1 (tailEnd L)))))))

set_option maxRecDepth 100000 in
set_option maxHeartbeats 4000000 in
/-- The printed body is that schedule. -/
theorem body_eq :
    cc0__sc_body (F := F) L cacheV (Memref.isWhole_whole _) updV (Memref.isWhole_whole _) outV (Memref.isWhole_whole _) bufV (Memref.isWhole_whole _)
      cc0_scratch1 cc0_scratch2 cc0_scratch3 cc0_scratch4 cc0_scratch5 cc0_scratch6 = body L := rfl

end Cert.Proof.Jobs

end
-- ==== Proof.Setup.lean ====
/-
  The set-up shared by the proof's modules: the program as the launch theorem sees it, the resource algebra (the launch
  handshakes' rounds beside the local transfers' counters), and the launch memory.
-/
module

public import proofs.«01_k».proof.Proof.Jobs
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-- The labels, the SparseCore call's configuration and the body table. -/
abbrev ΛP : Labels := Pipeline.Sig Λ₀ (Fin 0) fun p => (pcfgs (F := F) p).Adm
/-- The launch, with its programs. -/
abbrev K : SparseCore.Cfg τ sig (ΛP (F := F)) 1 := sc (F := F)
abbrev D [FloatOps F] : Defs nD τ sig (Elt F) (ΛP (F := F)) := Pipeline.defs pcfgs defs₀
/-- No loop needs a measure. -/
abbrev 𝒱₀ : Variants := Variants.none
abbrev 𝒱 : Variants := 𝒱₀.lift
abbrev v₀ : 𝒱.V := Sum.inl none

/-- The kernel runs on two SparseCores. -/
theorem nCore_zero : (K (F := F)).nCore 0 = 2 := rfl
/-- And on sixteen tiles of each. -/
theorem nSub_zero : (K (F := F)).nSub 0 = 16 := rfl

/-- The launch semaphores are nobody's scratch, and no buffer of a SparseCore's is dealt per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The user algebra: the handshakes' rounds, and the counters the local transfers run on. -/
abbrev UH : Type := URounds (GSem nD τ sig) ℕ
/-- The ghost state: the hand-shakes and the counters. -/
abbrev UU : Type := UH × Counters

/-- Assertions of this certificate. -/
abbrev MM (F : FTy → Type) : Type := MT nD τ sig (HIx 1) (Elt F) ℕ UU ℕ

/-- Where the hand-shakes and the counters lie in it. -/
abbrev EH : Emb UH (MM F) := embL
abbrev EC : UEmb Counters (MM F) := countersEmb

/-- The SparseCore and tile numbers of the grid point `L`, and its thread on device `d`. -/
abbrev cV (L : grid0.Coords) : Fin τ.nSC := (L 0).castLE hcore0
/-- A tile's number on its SparseCore. -/
abbrev jV (L : grid0.Coords) : Fin τ.nSub := (L 1).castLE hsub0
/-- A tile's thread. -/
abbrev thr (d : Dev nD) (L : grid0.Coords) : Thread nD τ := V d (cV L) (jV L)

/-- Memory contents. -/
abbrev Mem (F : FTy → Type) : Type := (ℓ : Loc nD τ sig) → Buf (Elt F) ℓ

end Cert.Proof.Run

end
-- ==== Proof.Geo.lean ====
/-
  Which elements a job's pieces have, and the semaphores' numbers.
-/
module

public import proofs.«01_k».proof.Proof.Setup

@[expose] public section

noncomputable section

namespace Cert.Proof.Geo

open Cert.KernelIdeal Cert.KernelIdeal.Gen Cert.Proof.Jobs
open Idealize.ShloMosaic

/-! ## Slots -/

/-- Slot `k` of tile `t`'s part of the shared memory. -/
def lane (t k : ℕ) : Finset S16x4x248x128.Idx := Finset.univ.filter fun i => (i 0).val = t ∧ (i 1).val = k

/-- An element lies in a slot when its first two coordinates name the slot. -/
theorem mem_lane {t k : ℕ} {i : S16x4x248x128.Idx} : i ∈ lane t k ↔ (i 0).val = t ∧ (i 1).val = k := by
  simp [lane]

/-- The elements of the shared memory job `j` uses, -/
def slotS (L : grid0.Coords) (j : Fin 68) : Finset S16x4x248x128.Idx := (slot L j).view.set

/-- a rectangle. -/
theorem slot_set (L : grid0.Coords) (j : Fin 68) :
    slotS L j
      = (Rect.unit (s := S16x4x248x128) ![tileNo L, j.val % 4, 0, 0] (S11r (rows j)).size (slot_inb L j)).set := by
  exact (View.set_reshape _ _).trans (View.set_slice_whole _ _)

/-- A job's slot is part of slot `j % 4` of its tile. -/
theorem slot_subset (L : grid0.Coords) (j : Fin 68) :
    slotS L j ⊆ lane (tileNo L) (j.val % 4) := by
  intro i hi
  rw [slot_set, Rect.mem_set_unit] at hi
  have h0 : tileNo L ≤ (i 0).val ∧ (i 0).val < tileNo L + 1 := hi 0
  have h1 : j.val % 4 ≤ (i 1).val ∧ (i 1).val < j.val % 4 + 1 := hi 1
  rw [mem_lane]; omega

/-! ## The rows read and written -/

/-- The elements of the result job `j` writes, -/
def dstS (L : grid0.Coords) (j : Fin 68) : Finset S64x8192x128.Idx := (dst L j).view.set

/-- a rectangle, -/
theorem dst_set (L : grid0.Coords) (j : Fin 68) :
    dstS L j
      = (Rect.unit (s := S64x8192x128) ![batch L j, dstRow j, 0] (S1r (rows j)).size (dst_inb L j)).set := by
  exact (View.set_reshape _ _).trans (View.set_slice_whole _ _)

/-- whole rows of one batch. -/
theorem mem_dst {L : grid0.Coords} {j : Fin 68} {i : S64x8192x128.Idx} :
    i ∈ dstS L j
      ↔ (i 0).val = batch L j ∧ dstRow j ≤ (i 1).val ∧ (i 1).val < dstRow j + rows j := by
  rw [dst_set, Rect.mem_set_unit]
  constructor
  · intro h
    have h0 : batch L j ≤ (i 0).val ∧ (i 0).val < batch L j + 1 := h 0
    have h1 : dstRow j ≤ (i 1).val ∧ (i 1).val < dstRow j + rows j := h 1
    omega
  · rintro ⟨h0, h1, h2⟩ a
    match a with
    | 0 => show batch L j ≤ (i 0).val ∧ (i 0).val < batch L j + 1; omega
    | 1 => exact ⟨h1, h2⟩
    | 2 => exact ⟨Nat.zero_le _, by have : (i 2).val < 128 := (i 2).isLt; show (i 2).val < 0 + 128; omega⟩

/-! ## Semaphores -/

/-- The number of the semaphore of job `n`'s copy in, -/
def inIx (n : ℕ) : Fin 12 := if kOf n < 32 then Fin.ofNat 12 (n % 4) else if kOf n < 33 then 8 else 10
/-- and of its copy out. -/
def outIx (n : ℕ) : Fin 12 := if kOf n < 32 then Fin.ofNat 12 (4 + n % 4) else if kOf n < 33 then 9 else 11

/-- The semaphore of each job's copy in, by the job's number. -/
theorem inSem_eq : ∀ j : Fin 68, inSem j = inIx j.val := by decide +kernel
/-- The semaphore of each job's copy out, by the job's number. -/
theorem outSem_eq : ∀ j : Fin 68, outSem j = outIx j.val := by decide +kernel

/-- The semaphores in use before step `j`: a copy out and three copies in are under way. -/
def busy (j : ℕ) : Finset (Fin 12) := {outIx (j - 1), inIx j, inIx (j + 1), inIx (j + 2)}

/-- Before step `j`, the semaphore the step waits for first is in use; -/
theorem busy_out : ∀ j : Fin 69, 1 ≤ j.val → outIx (j.val - 1) ∈ busy j := by decide +kernel
/-- those of the copy it starts then is free; -/
theorem busy_in : ∀ j : Fin 65, 1 ≤ j.val → inIx (j.val + 3) ∉ (busy j).erase (outIx (j.val - 1)) := by decide +kernel
/-- the copy in it waits for is under way; -/
theorem busy_wait : ∀ j : Fin 65, 1 ≤ j.val → inIx j ∈ insert (inIx (j.val + 3)) ((busy j).erase (outIx (j.val - 1))) := by decide +kernel
/-- the semaphore of the copy out it starts is free; -/
theorem busy_start : ∀ j : Fin 65, 1 ≤ j.val →
    outIx j ∉ (insert (inIx (j.val + 3)) ((busy j).erase (outIx (j.val - 1)))).erase (inIx j) := by decide +kernel
/-- and what is in use at the end is the next step's. -/
theorem busy_next : ∀ j : Fin 65, 1 ≤ j.val →
    insert (outIx j) ((insert (inIx (j.val + 3)) ((busy j).erase (outIx (j.val - 1)))).erase (inIx j)) = busy (j.val + 1) := by decide +kernel

/-- The semaphores in use as the ring fills, -/
abbrev fill : ℕ → Finset (Fin 12)
  | 0 => ∅
  | n + 1 => insert (inIx n) (fill n)
/-- and when job 0 goes from in to out: step 1's. -/
theorem busy_one : insert (outIx 0) ((fill 4).erase (inIx 0)) = busy 1 := by decide +kernel

/-- Those in use as the last jobs go from in to out, `n` of them having done so, -/
abbrev last : ℕ → Finset (Fin 12)
  | 0 => busy 65
  | n + 1 => insert (outIx (65 + n)) ((last n).erase (inIx (65 + n)))
/-- and as `n` of the last four copies out are done. -/
abbrev drain : ℕ → Finset (Fin 12)
  | 0 => last 3
  | n + 1 => (drain n).erase (outIx (64 + n))

/-- While the ring fills, the next copy in finds its semaphore free. -/
theorem fill_in : ∀ n : Fin 4, inIx n ∉ fill n := by decide +kernel
/-- When it is full, the first copy in is under way. -/
theorem fill_wait : inIx 0 ∈ fill 4 := by decide +kernel
/-- The first copy out then finds its semaphore free. -/
theorem fill_out : outIx 0 ∉ (fill 4).erase (inIx 0) := by decide +kernel
/-- Of the last three jobs each copy in is under way. -/
theorem last_in : ∀ n : Fin 3, inIx (65 + n) ∈ last n := by decide +kernel
/-- Each copy out of theirs finds its semaphore free. -/
theorem last_out : ∀ n : Fin 3, outIx (65 + n) ∉ (last n).erase (inIx (65 + n)) := by decide +kernel
/-- The last four copies out are under way. -/
theorem drain_out : ∀ n : Fin 4, outIx (64 + n) ∈ drain n := by decide +kernel
/-- At the end none is in use. -/
theorem drain_end : drain 4 = ∅ := by decide +kernel

end Cert.Proof.Geo

end
-- ==== Proof.Body.lean ====
/-
  The kernel's body run once, at a symbolic tile.
-/
module

public import proofs.«01_k».proof.Proof.Geo

@[expose] public section

noncomputable section

namespace Cert.Proof.Run

open Cert.KernelIdeal Cert.KernelIdeal.Gen Cert.Proof.Jobs Cert.Proof.Geo
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## One transfer at a time -/

section Rules

variable (d : Dev nD) (L : grid0.Coords) (m m' : Mem F)

/-- The shared memory of the tile's SparseCore. -/
abbrev bufLoc : Loc nD τ sig := bufV.view.loc (thr d L)
/-- The elements of the shared memory job `j` uses. -/
abbrev slotSet (j : Fin 68) : Finset (Idx (bufLoc d L)) := slotS L j

/-- What job `j` reads, at its contents. -/
def srcP (j : Fin 68) : sProp 𝕄 :=
  (src L j).view.loc (thr d L) ↦[(src L j).view.set]{fullShare} m ((src L j).view.loc (thr d L))
/-- What it writes, as the memory `μ` has it. -/
def dstP (μ : Mem F) (j : Fin 68) : sProp 𝕄 :=
  (dst L j).view.loc (thr d L) ↦[(dst L j).view.set]{fullShare} μ ((dst L j).view.loc (thr d L))
/-- The values job `j` carries. -/
def val (j : Fin 68) : (Sr (rows j)).Idx → Elt F .f32 :=
  (src L j).view.read (Elt F) (m ((src L j).view.loc (thr d L)))
/-- Slot `k` of the tile's, holding anything. -/
def slotAny (k : ℕ) : sProp 𝕄 := iprop(∃ f, bufLoc d L ↦[lane (tileNo L) k]{fullShare} f)
/-- Job `j`'s slot, its first rows holding what the job carries. -/
def slotVal (j : Fin 68) : sProp 𝕄 :=
  iprop(∃ f, ⌜(slot L j).view.read (Elt F) f = val d L m j⌝ ∗ bufLoc d L ↦[lane (tileNo L) (j.val % 4)]{fullShare} f)
/-- The rows of the slot job `j` leaves alone. -/
def slotRest (j : Fin 68) : sProp 𝕄 :=
  iprop(∃ f, bufLoc d L ↦[lane (tileNo L) (j.val % 4) \ slotSet d L j]{fullShare} f)

/-- Job `j`'s copy in under way: its wait brings the slot, filled, and the source back. -/
def flIn (j : Fin 68) : sProp 𝕄 :=
  Transfers.Flight EC (thr d L) (.dma (inSem j)) (none : HIx 1) (slot L j).view.dmaCredit iprop(slotVal d L m j ∗ srcP d L m j)
/-- Its copy out under way: its wait brings the written rows and the slot. -/
def flOut (j : Fin 68) : sProp 𝕄 :=
  iprop(Transfers.Flight EC (thr d L) (.dma (outSem j)) (none : HIx 1) (dst L j).view.dmaCredit
      iprop(dstP d L m' j ∗ ∃ f, bufLoc d L ↦[slotSet d L j]{fullShare} f)
    ∗ slotRest d L j)

variable {d L m m'}
variable {k : TProg F L} {Q : PUnit.{1} → sProp (MM F)}

/-- What has to be shown of a piece of the body. -/
abbrev WP (d : Dev nD) (L : grid0.Coords) (p : TProg F L) (Q : PUnit.{1} → sProp (MM F)) : sProp (MM F) :=
  wp frame (wpE (defs₀ (F := F)) 𝒱₀ (thr d L) none) Set.univ p Q

/-- A job moves at least one row. -/
theorem rows_pos (j : ℕ) : 0 < rows j := by rcases rows_cases j with h | h | h <;> omega

/-- So its view has at least one element. -/
theorem sr_numel_pos (j : Fin 68) : 0 < (Sr (rows j)).numel :=
  Shape.numel_pos fun a => match a with
    | 0 => rows_pos j.val
    | 1 => (by decide : 0 < 128)

/-- What the tile owes, and that it may wait for its own copies. -/
def Ow (d : Dev nD) (L : grid0.Coords) (O : CellTallies nD τ sig (HIx 1)) (W : Waits sig (HIx 1)) : sProp (MM F) :=
  iprop(Transfers.MayWaits (thr d L) (none : HIx 1) O ∗ ∃ W', ⌜∀ p ∈ W', p ∈ W ∨ p.2 = none⌝ ∗ owes (thr d L) O W')

/-- Starting a copy in takes the source's rows, the slot and the semaphore. -/
theorem wp_startIn (j : Fin 68) :
    iprop(srcP d L m j ∗ slotAny d L (j.val % 4) ∗ semVal (thr d L, .dma (inSem j)) 0 ∗ (flIn d L m j -∗ WP d L k Q)) ⊢ WP d L (startIn L j k) Q := by
  unfold startIn srcP slotAny
  iintro ⟨Hs, ⟨%f, Hb⟩, Hv, Hk⟩
  iapply (Transfers.wp_dmaLocal EC 𝒱₀ (thr d L) none (src := src L j) (dst := slot L j) (none : HIx 1) _ rfl
    (View.amount_pos _ _ (sr_numel_pos j)) (slot_subset L j)) $$ [Hs Hb Hv]
  · isplitl [Hs]; · iexact Hs
    isplitl [Hb]; · iexact Hb
    iexact Hv
  iintro Hf
  iapply Hk
  unfold flIn slotVal srcP
  have h : iprop((bufLoc d L ↦[lane (tileNo L) (j.val % 4)]{fullShare} (slot L j).view.write (Elt F) f (val d L m j) Finset.univ)
        ∗ ((src L j).view.loc (thr d L) ↦[(src L j).view.set]{fullShare} m ((src L j).view.loc (thr d L))))
      ⊢ (iprop((∃ f, ⌜(slot L j).view.read (Elt F) f = val d L m j⌝ ∗ bufLoc d L ↦[lane (tileNo L) (j.val % 4)]{fullShare} f)
        ∗ ((src L j).view.loc (thr d L) ↦[(src L j).view.set]{fullShare} m ((src L j).view.loc (thr d L)))) : sProp 𝕄) := by
    iintro ⟨Hb, Hs⟩
    isplitl [Hb]
    · iexists ((slot L j).view.write (Elt F) f (val d L m j) Finset.univ)
      isplitr
      · ipureintro; exact View.read_write_univ _ _
      · iexact Hb
    · iexact Hs
  iapply (show (Transfers.Flight EC (thr d L) (.dma (inSem j)) (none : HIx 1) ((slot L j).view.amount (.dma (inSem j)))
      iprop(((slot L j).view.loc (thr d L) ↦[lane (tileNo L) (j.val % 4)]{fullShare} (slot L j).view.write (Elt F) f
          (ReadAs.same.apply ((src L j).view.read (Elt F) (m ((src L j).view.loc (thr d L))))) Finset.univ)
        ∗ ((src L j).view.loc (thr d L) ↦[(src L j).view.set]{fullShare} m ((src L j).view.loc (thr d L)))) : sProp 𝕄)
    ⊢ _ from Transfers.Flight_mono EC (thr d L) h) $$ Hf

/-- Its wait gives the slot, filled, the rows and the semaphore. -/
theorem wp_waitIn (j : Fin 68) {O : CellTallies nD τ sig (HIx 1)} {W : Waits sig (HIx 1)} :
    iprop(flIn d L m j ∗ Ow d L O W ∗ (slotVal d L m j ∗ srcP d L m j ∗ semVal (thr d L, .dma (inSem j)) 0 ∗ Ow d L O W -∗ WP d L k Q))
      ⊢ WP d L (waitIn L j k) Q := by
  unfold waitIn flIn Ow
  iintro ⟨Hf, ⟨#Hmw, %W', %hW, Ho⟩, Hk⟩
  iapply (Transfers.wp_waitLocalO EC 𝒱₀ (thr d L) none (none : HIx 1) rfl) $$ [Hf Ho]
  · isplitl [Hf]; · iexact Hf
    isplitl [Ho]; · iexact Ho
    iapply (Transfers.MayWaits.elim (.dma (inSem j))) $$ Hmw
  iintro ⟨⟨Hb, Hs⟩, Hv, Ho⟩
  iapply Hk
  isplitl [Hb]; · iexact Hb
  isplitl [Hs]; · iexact Hs
  isplitl [Hv]; · iexact Hv
  isplitr; · iexact Hmw
  iexists (insert (SemLoc.dma (inSem j), (none : HIx 1)) W')
  isplitr
  · ipureintro
    intro p hp
    rcases Finset.mem_insert.mp hp with h | h
    · exact Or.inr (by rw [h])
    · exact hW p h
  · iexact Ho

/-- A slot is the rows job `j` uses and the rest. -/
theorem slot_split (j : Fin 68) (f : Buf (Elt F) (bufLoc d L)) :
    (bufLoc d L ↦[lane (tileNo L) (j.val % 4)]{fullShare} f : sProp 𝕄)
      ⊢ iprop((bufLoc d L ↦[slotSet d L j]{fullShare} f) ∗ bufLoc d L ↦[lane (tileNo L) (j.val % 4) \ slotSet d L j]{fullShare} f) :=
  (pointsTo_split_subset (slot_subset L j)).1

/-- Starting a copy out takes the filled slot, the result's rows and the semaphore. -/
theorem wp_startOut (j : Fin 68) (hv : (dst L j).view.read (Elt F) (m' ((dst L j).view.loc (thr d L))) = val d L m j) :
    iprop(slotVal d L m j ∗ dstP d L m j ∗ semVal (thr d L, .dma (outSem j)) 0 ∗ (flOut d L m' j -∗ WP d L k Q)) ⊢ WP d L (startOut L j k) Q := by
  unfold startOut dstP slotVal
  iintro ⟨⟨%f, %hf, Hb⟩, Hd, Hv, Hk⟩
  icases (slot_split j f) $$ Hb with ⟨Hb, Hr⟩
  iapply (Transfers.wp_dmaLocal EC 𝒱₀ (thr d L) none (src := slot L j) (dst := dst L j) (none : HIx 1) _ rfl
    (View.amount_pos _ _ (sr_numel_pos j)) (Finset.Subset.refl _)) $$ [Hd Hb Hv]
  · isplitl [Hb]; · iexact Hb
    isplitl [Hd]; · iexact Hd
    iexact Hv
  iintro Hf
  iapply Hk
  unfold flOut dstP slotRest
  isplitr [Hr]; rotate_left
  · iexists f; iexact Hr
  have e : ((dst L j).view.loc (thr d L) ↦[(dst L j).view.set]{fullShare}
        (dst L j).view.write (Elt F) (m ((dst L j).view.loc (thr d L))) ((slot L j).view.read (Elt F) f) Finset.univ : sProp 𝕄)
      = ((dst L j).view.loc (thr d L) ↦[(dst L j).view.set]{fullShare} m' ((dst L j).view.loc (thr d L))) :=
    pointsTo_congr fun i hi => by
      rw [hf, ← hv, View.write_read_eq_piecewise]
      exact Finset.piecewise_eq_of_mem _ _ _ hi
  have h : iprop(((dst L j).view.loc (thr d L) ↦[(dst L j).view.set]{fullShare}
        (dst L j).view.write (Elt F) (m ((dst L j).view.loc (thr d L))) ((slot L j).view.read (Elt F) f) Finset.univ)
        ∗ (bufLoc d L ↦[slotSet d L j]{fullShare} f))
      ⊢ (iprop(((dst L j).view.loc (thr d L) ↦[(dst L j).view.set]{fullShare} m' ((dst L j).view.loc (thr d L)))
        ∗ ∃ f, bufLoc d L ↦[slotSet d L j]{fullShare} f) : sProp 𝕄) := by
    rw [e]
    iintro ⟨Hd, Hb⟩
    isplitl [Hd]; · iexact Hd
    iexists f; iexact Hb
  iapply (show (Transfers.Flight EC (thr d L) (.dma (outSem j)) (none : HIx 1) ((dst L j).view.amount (.dma (outSem j)))
      iprop(((dst L j).view.loc (thr d L) ↦[(dst L j).view.set]{fullShare} (dst L j).view.write (Elt F) (m ((dst L j).view.loc (thr d L)))
          (ReadAs.same.apply ((slot L j).view.read (Elt F) f)) Finset.univ)
        ∗ ((slot L j).view.loc (thr d L) ↦[(slot L j).view.set]{fullShare} f)) : sProp 𝕄)
    ⊢ _ from Transfers.Flight_mono EC (thr d L) h) $$ Hf

/-- The two parts of a slot make the slot. -/
theorem slot_join (j : Fin 68) :
    iprop((∃ f, bufLoc d L ↦[slotSet d L j]{fullShare} f) ∗ slotRest d L j) ⊢ (slotAny d L (j.val % 4) : sProp 𝕄) := by
  unfold slotRest slotAny
  iintro ⟨⟨%f, Hb⟩, %g, Hr⟩
  iexists (slotSet d L j).piecewise f g
  iapply (pointsTo_join_subset (slot_subset L j))
  isplitl [Hb]; · iexact Hb
  iexact Hr

/-- Its wait gives the rows written, the slot and the semaphore. -/
theorem wp_waitOut (j : Fin 68) {O : CellTallies nD τ sig (HIx 1)} {W : Waits sig (HIx 1)} :
    iprop(flOut d L m' j ∗ Ow d L O W ∗ (dstP d L m' j ∗ slotAny d L (j.val % 4) ∗ semVal (thr d L, .dma (outSem j)) 0 ∗ Ow d L O W -∗ WP d L k Q))
      ⊢ WP d L (waitOut L j k) Q := by
  unfold waitOut flOut Ow
  iintro ⟨⟨Hf, Hr⟩, ⟨#Hmw, %W', %hW, Ho⟩, Hk⟩
  iapply (Transfers.wp_waitLocalO EC 𝒱₀ (thr d L) none (none : HIx 1) rfl) $$ [Hf Ho]
  · isplitl [Hf]; · iexact Hf
    isplitl [Ho]; · iexact Ho
    iapply (Transfers.MayWaits.elim (.dma (outSem j))) $$ Hmw
  iintro ⟨⟨Hd, Hb⟩, Hv, Ho⟩
  iapply Hk
  isplitl [Hd]; · iexact Hd
  isplitl [Hb Hr]
  · iapply (slot_join (d := d) (L := L) j)
    isplitl [Hb]; · iexact Hb
    iexact Hr
  isplitl [Hv]; · iexact Hv
  isplitr; · iexact Hmw
  iexists (insert (SemLoc.dma (outSem j), (none : HIx 1)) W')
  isplitr
  · ipureintro
    intro p hp
    rcases Finset.mem_insert.mp hp with h | h
    · exact Or.inr (by rw [h])
    · exact hW p h
  · iexact Ho

/-! ## The ring -/

/-- The jobs before `n`, and those from `n` on. -/
def lo (n : ℕ) : Finset (Fin 68) := Finset.univ.filter fun i => i.val < n
/-- The jobs from number `n` on. -/
def hi (n : ℕ) : Finset (Fin 68) := Finset.univ.filter fun i => n ≤ i.val

/-- Job `n` has number `n`. -/
theorem jb_val {n : ℕ} (h : n < 68) : (jb n).val = n := Nat.mod_eq_of_lt h

/-- The jobs below `n + 1` are job `n` and those below `n`. -/
theorem lo_succ {n : ℕ} (h : n < 68) (Φ : Fin 68 → sProp 𝕄) : bigSep (lo (n + 1)) Φ = iprop(Φ (jb n) ∗ bigSep (lo n) Φ) := by
  have e : lo (n + 1) = insert (jb n) (lo n) := by
    ext i
    simp only [lo, Finset.mem_filter, Finset.mem_univ, true_and, Finset.mem_insert, Fin.ext_iff, jb_val h]; omega
  rw [e, SparseCore.bigSep_insert' (by simp only [lo, Finset.mem_filter, Finset.mem_univ, true_and, jb_val h]; omega)]
/-- The jobs from `n` on are job `n` and those from `n + 1` on. -/
theorem hi_succ {n : ℕ} (h : n < 68) (Φ : Fin 68 → sProp 𝕄) : bigSep (hi n) Φ = iprop(Φ (jb n) ∗ bigSep (hi (n + 1)) Φ) := by
  have e : hi n = insert (jb n) (hi (n + 1)) := by
    ext i
    simp only [hi, Finset.mem_filter, Finset.mem_univ, true_and, Finset.mem_insert, Fin.ext_iff, jb_val h]; omega
  rw [e, SparseCore.bigSep_insert' (by simp only [hi, Finset.mem_filter, Finset.mem_univ, true_and, jb_val h]; omega)]
/-- No job is below zero. -/
theorem lo_zero : lo 0 = ∅ := by decide
/-- All 68 jobs are below 68. -/
theorem lo_all : lo 68 = Finset.univ := by decide
/-- All jobs are from zero on. -/
theorem hi_zero : hi 0 = Finset.univ := by decide
/-- No job is from 68 on. -/
theorem hi_all : hi 68 = ∅ := by decide

variable (d L) in
/-- The semaphores other than those in `B`, at zero. -/
def free (B : Finset (Fin 12)) : sProp 𝕄 := bigSep (Finset.univ \ B) fun q : Fin 12 => semVal (thr d L, .dma q) 0

/-- One of them taken, -/
theorem free_take {B : Finset (Fin 12)} {q : Fin 12} (h : q ∉ B) :
    (free d L B : sProp 𝕄) = iprop(semVal (thr d L, .dma q) 0 ∗ free d L (insert q B)) := by
  unfold free
  have e : Finset.univ \ B = insert q (Finset.univ \ insert q B) := by
    ext i; by_cases hi : i = q
    · subst hi; simp [h]
    · simp [hi]
  rw [e, SparseCore.bigSep_insert' (by simp)]
/-- and given back. -/
theorem free_give {B : Finset (Fin 12)} {q : Fin 12} (h : q ∈ B) :
    (iprop(semVal (thr d L, .dma q) 0 ∗ free d L B) : sProp 𝕄) = free d L (B.erase q) := by
  rw [free_take (Finset.notMem_erase q B), Finset.insert_erase h]

variable (d L m m') in
/-- Before step `j`: job `j - 1` on its way out, the next three on their way in. -/
def Inv (O : CellTallies nD τ sig (HIx 1)) (W : Waits sig (HIx 1)) (j : ℕ) : sProp 𝕄 :=
  iprop(flOut d L m' (jb (j - 1)) ∗ flIn d L m (jb j) ∗ flIn d L m (jb (j + 1)) ∗ flIn d L m (jb (j + 2))
    ∗ free d L (busy j) ∗ bigSep (lo j) (srcP d L m) ∗ bigSep (hi (j + 3)) (srcP d L m)
    ∗ bigSep (lo (j - 1)) (dstP d L m') ∗ bigSep (hi j) (dstP d L m) ∗ Ow d L O W)

variable {O : CellTallies nD τ sig (HIx 1)} {W : Waits sig (HIx 1)}
variable (hv : ∀ j, (dst L j).view.read (Elt F) (m' ((dst L j).view.loc (thr d L))) = val d L m j)

/-- What the rules take of a job's semaphores, by number. -/
theorem in_val {n : ℕ} (h : n < 68) : (semVal (thr d L, .dma (inSem (jb n))) 0 : sProp 𝕄) = semVal (thr d L, .dma (inIx n)) 0 := by
  rw [inSem_eq, jb_val h]
/-- The counter of a job's copy out, by the job's number. -/
theorem out_val {n : ℕ} (h : n < 68) : (semVal (thr d L, .dma (outSem (jb n))) 0 : sProp 𝕄) = semVal (thr d L, .dma (outIx n)) 0 := by
  rw [outSem_eq, jb_val h]

/-- The next job's copy in started, with what it takes and leaves counted. -/
theorem ring_startIn {n r : ℕ} (h : n < 68) (hr : n % 4 = r) {B : Finset (Fin 12)} (hB : inIx n ∉ B) :
    iprop(bigSep (hi n) (srcP d L m) ∗ slotAny d L r ∗ free d L B
      ∗ (flIn d L m (jb n) ∗ bigSep (hi (n + 1)) (srcP d L m) ∗ free d L (insert (inIx n) B) -∗ WP d L k Q)) ⊢ WP d L (startIn L (jb n) k) Q := by
  rw [hi_succ h, free_take hB, ← in_val h, ← hr]
  have e := jb_val h
  iintro ⟨⟨Hs, Hsh⟩, Hb, ⟨Hv, Hf⟩, Hk⟩
  iapply wp_startIn
  isplitl [Hs]; · iexact Hs
  isplitl [Hb]
  · iapply (Entails.of_eq (show slotAny d L (n % 4) = slotAny d L ((jb n).val % 4) by rw [e]))
    iexact Hb
  isplitl [Hv]; · iexact Hv
  iintro Hi
  iapply Hk
  isplitl [Hi]; · iexact Hi
  isplitl [Hsh]; · iexact Hsh
  iexact Hf

/-- A copy in waited for. -/
theorem ring_waitIn {n : ℕ} (h : n < 68) {B : Finset (Fin 12)} (hB : inIx n ∈ B) :
    iprop(flIn d L m (jb n) ∗ bigSep (lo n) (srcP d L m) ∗ free d L B ∗ Ow d L O W
      ∗ (slotVal d L m (jb n) ∗ bigSep (lo (n + 1)) (srcP d L m) ∗ free d L (B.erase (inIx n)) ∗ Ow d L O W -∗ WP d L k Q))
      ⊢ WP d L (waitIn L (jb n) k) Q := by
  rw [lo_succ h, ← free_give hB, ← in_val h]
  iintro ⟨Hi, Hsl, Hf, Hw, Hk⟩
  iapply wp_waitIn
  isplitl [Hi]; · iexact Hi
  isplitl [Hw]; · iexact Hw
  iintro ⟨Hb, Hs, Hv, Hw⟩
  iapply Hk
  isplitl [Hb]; · iexact Hb
  isplitl [Hs Hsl]
  · isplitl [Hs]; · iexact Hs
    iexact Hsl
  isplitl [Hv Hf]
  · isplitl [Hv]; · iexact Hv
    iexact Hf
  iexact Hw

include hv in
/-- The next job's copy out started. -/
theorem ring_startOut {n : ℕ} (h : n < 68) {B : Finset (Fin 12)} (hB : outIx n ∉ B) :
    iprop(slotVal d L m (jb n) ∗ bigSep (hi n) (dstP d L m) ∗ free d L B
      ∗ (flOut d L m' (jb n) ∗ bigSep (hi (n + 1)) (dstP d L m) ∗ free d L (insert (outIx n) B) -∗ WP d L k Q)) ⊢ WP d L (startOut L (jb n) k) Q := by
  rw [hi_succ h, free_take hB, ← out_val h]
  iintro ⟨Hb, ⟨Hd, Hdh⟩, ⟨Hv, Hf⟩, Hk⟩
  iapply (wp_startOut _ (hv _))
  isplitl [Hb]; · iexact Hb
  isplitl [Hd]; · iexact Hd
  isplitl [Hv]; · iexact Hv
  iintro Ho
  iapply Hk
  isplitl [Ho]; · iexact Ho
  isplitl [Hdh]; · iexact Hdh
  iexact Hf

/-- A copy out waited for. -/
theorem ring_waitOut {n r : ℕ} (h : n < 68) (hr : n % 4 = r) {B : Finset (Fin 12)} (hB : outIx n ∈ B) :
    iprop(flOut d L m' (jb n) ∗ bigSep (lo n) (dstP d L m') ∗ free d L B ∗ Ow d L O W
      ∗ (slotAny d L r ∗ bigSep (lo (n + 1)) (dstP d L m') ∗ free d L (B.erase (outIx n)) ∗ Ow d L O W -∗ WP d L k Q))
      ⊢ WP d L (waitOut L (jb n) k) Q := by
  rw [lo_succ h, ← free_give hB, ← out_val h, ← hr]
  have e := jb_val h
  iintro ⟨Hi, Hdl, Hf, Hw, Hk⟩
  iapply wp_waitOut
  isplitl [Hi]; · iexact Hi
  isplitl [Hw]; · iexact Hw
  iintro ⟨Hd, Hb, Hv, Hw⟩
  iapply Hk
  isplitl [Hb]
  · iapply (Entails.of_eq (show slotAny d L ((jb n).val % 4) = slotAny d L (n % 4) by rw [e]))
    iexact Hb
  isplitl [Hd Hdl]
  · isplitl [Hd]; · iexact Hd
    iexact Hdl
  isplitl [Hv Hf]
  · isplitl [Hv]; · iexact Hv
    iexact Hf
  iexact Hw

include hv in
/-- One step. -/
theorem wp_step {j : ℕ} (h2 : j < 64) :
    iprop(Inv d L m m' O W (j + 1) ∗ (Inv d L m m' O W (j + 2) -∗ WP d L k Q)) ⊢ WP d L (step L (j + 1) k) Q := by
  have b1 := busy_out ⟨j + 1, by omega⟩ (by simp)
  have b2 := busy_in ⟨j + 1, by omega⟩ (by simp)
  have b3 := busy_wait ⟨j + 1, by omega⟩ (by simp)
  have b4 := busy_start ⟨j + 1, by omega⟩ (by simp)
  unfold Inv step
  rw [← show _ = busy (j + 2) from busy_next ⟨j + 1, by omega⟩ (by simp)]
  iintro ⟨⟨Ho, Hi0, Hi1, Hi2, Hf, Hsl, Hsh, Hdl, Hdh, Hw⟩, Hk⟩
  iapply (ring_waitOut (n := j) (r := j % 4) (by omega) rfl b1)
  isplitl [Ho]; · iexact Ho
  isplitl [Hdl]; · iexact Hdl
  isplitl [Hf]; · iexact Hf
  isplitl [Hw]; · iexact Hw
  iintro ⟨Hb, Hdl, Hf, Hw⟩
  iapply (ring_startIn (n := j + 1 + 3) (r := j % 4) (by omega) (by omega) b2)
  isplitl [Hsh]; · iexact Hsh
  isplitl [Hb]; · iexact Hb
  isplitl [Hf]; · iexact Hf
  iintro ⟨Hi3, Hsh, Hf⟩
  iapply (ring_waitIn (n := j + 1) (by omega) b3)
  isplitl [Hi0]; · iexact Hi0
  isplitl [Hsl]; · iexact Hsl
  isplitl [Hf]; · iexact Hf
  isplitl [Hw]; · iexact Hw
  iintro ⟨Hb, Hsl, Hf, Hw⟩
  iapply (ring_startOut hv (n := j + 1) (by omega) b4)
  isplitl [Hb]; · iexact Hb
  isplitl [Hdh]; · iexact Hdh
  isplitl [Hf]; · iexact Hf
  iintro ⟨Ho, Hdh, Hf⟩
  iapply Hk
  isplitl [Ho]; · iexact Ho
  isplitl [Hi1]; · iexact Hi1
  isplitl [Hi2]; · iexact Hi2
  isplitl [Hi3]; · iexact Hi3
  isplitl [Hf]; · iexact Hf
  isplitl [Hsl]; · iexact Hsl
  isplitl [Hsh]; · iexact Hsh
  isplitl [Hdl]; · iexact Hdl
  isplitl [Hdh]; · iexact Hdh
  iexact Hw

include hv in
/-- Any number of steps. -/
theorem wp_steps (n : ℕ) : ∀ {j : ℕ}, j + n ≤ 64 →
    iprop(Inv d L m m' O W (j + 1) ∗ (Inv d L m m' O W (j + n + 1) -∗ WP d L k Q)) ⊢ WP d L (steps L n (j + 1) k) Q := by
  induction n with
  | zero =>
    intro j _
    unfold steps
    iintro ⟨HI, Hk⟩
    iapply Hk
    iexact HI
  | succ n ih =>
    intro j hj
    have ih' := ih (j := j + 1) (by omega)
    rw [show j + 1 + n + 1 = j + (n + 1) + 1 by omega] at ih'
    unfold steps
    iintro ⟨HI, Hk⟩
    iapply (wp_step hv (by omega))
    isplitl [HI]; · iexact HI
    iintro HI
    iapply ih'
    isplitl [HI]; · iexact HI
    iexact Hk

variable (d L m) in
/-- What the tile holds before it runs: its rows to read, its rows of the result as `μ` has them, its part of the
    shared memory, its semaphores. -/
def Holds (μ : Mem F) (O : CellTallies nD τ sig (HIx 1)) (W : Waits sig (HIx 1)) : sProp 𝕄 :=
  iprop(bigSep Finset.univ (srcP d L m) ∗ bigSep Finset.univ (dstP d L μ)
    ∗ (slotAny d L 0 ∗ slotAny d L 1 ∗ slotAny d L 2 ∗ slotAny d L 3) ∗ free d L ∅ ∗ Ow d L O W)

/-- A program that is done. -/
theorem wp_done (P : sProp 𝕄) : iprop(P ∗ (P -∗ Q ⟨⟩)) ⊢ WP d L (.ret ⟨⟩) Q := by
  unfold WP
  rw [wp_ret]
  iintro ⟨HP, Hk⟩
  imodintro
  iapply Hk
  iexact HP

include hv in
/-- The end of the ring. -/
theorem wp_tailEnd :
    iprop(Inv d L m m' O W 65 ∗ (Holds d L m m' O W -∗ Q ⟨⟩)) ⊢ WP d L (tailEnd L) Q := by
  unfold Inv tailEnd
  iintro ⟨⟨Ho, Hi0, Hi1, Hi2, Hf, Hsl, Hsh, Hdl, Hdh, Hw⟩, Hk⟩
  iapply (ring_waitIn (n := 65) (by omega) (last_in 0))
  isplitl [Hi0]; · iexact Hi0
  isplitl [Hsl]; · iexact Hsl
  isplitl [Hf]; · iexact Hf
  isplitl [Hw]; · iexact Hw
  iintro ⟨Hb, Hsl, Hf, Hw⟩
  iapply (ring_startOut hv (n := 65) (by omega) (last_out 0))
  isplitl [Hb]; · iexact Hb
  isplitl [Hdh]; · iexact Hdh
  isplitl [Hf]; · iexact Hf
  iintro ⟨Ho0, Hdh, Hf⟩
  iapply (ring_waitIn (n := 66) (by omega) (last_in 1))
  isplitl [Hi1]; · iexact Hi1
  isplitl [Hsl]; · iexact Hsl
  isplitl [Hf]; · iexact Hf
  isplitl [Hw]; · iexact Hw
  iintro ⟨Hb, Hsl, Hf, Hw⟩
  iapply (ring_startOut hv (n := 66) (by omega) (last_out 1))
  isplitl [Hb]; · iexact Hb
  isplitl [Hdh]; · iexact Hdh
  isplitl [Hf]; · iexact Hf
  iintro ⟨Ho1, Hdh, Hf⟩
  iapply (ring_waitIn (n := 67) (by omega) (last_in 2))
  isplitl [Hi2]; · iexact Hi2
  isplitl [Hsl]; · iexact Hsl
  isplitl [Hf]; · iexact Hf
  isplitl [Hw]; · iexact Hw
  iintro ⟨Hb, Hsl, Hf, Hw⟩
  iapply (ring_startOut hv (n := 67) (by omega) (last_out 2))
  isplitl [Hb]; · iexact Hb
  isplitl [Hdh]; · iexact Hdh
  isplitl [Hf]; · iexact Hf
  iintro ⟨Ho2, Hdh, Hf⟩
  iapply (ring_waitOut (n := 64) (r := 0) (by omega) rfl (drain_out 0))
  isplitl [Ho]; · iexact Ho
  isplitl [Hdl]; · iexact Hdl
  isplitl [Hf]; · iexact Hf
  isplitl [Hw]; · iexact Hw
  iintro ⟨Hb0, Hdl, Hf, Hw⟩
  iapply (ring_waitOut (n := 65) (r := 1) (by omega) rfl (drain_out 1))
  isplitl [Ho0]; · iexact Ho0
  isplitl [Hdl]; · iexact Hdl
  isplitl [Hf]; · iexact Hf
  isplitl [Hw]; · iexact Hw
  iintro ⟨Hb1, Hdl, Hf, Hw⟩
  iapply (ring_waitOut (n := 66) (r := 2) (by omega) rfl (drain_out 2))
  isplitl [Ho1]; · iexact Ho1
  isplitl [Hdl]; · iexact Hdl
  isplitl [Hf]; · iexact Hf
  isplitl [Hw]; · iexact Hw
  iintro ⟨Hb2, Hdl, Hf, Hw⟩
  iapply (ring_waitOut (n := 67) (r := 3) (by omega) rfl (drain_out 3))
  isplitl [Ho2]; · iexact Ho2
  isplitl [Hdl]; · iexact Hdl
  isplitl [Hf]; · iexact Hf
  isplitl [Hw]; · iexact Hw
  iintro ⟨Hb3, Hdl, Hf, Hw⟩
  iapply (wp_done (Holds d L m m' O W))
  isplitr [Hk]; rotate_left
  · iexact Hk
  unfold Holds
  isplitl [Hsl]
  · iapply (Entails.of_eq (congrArg (fun s => bigSep s (srcP d L m)) lo_all)); iexact Hsl
  isplitl [Hdl]
  · iapply (Entails.of_eq (congrArg (fun s => bigSep s (dstP d L m')) lo_all)); iexact Hdl
  isplitl [Hb0 Hb1 Hb2 Hb3]
  · isplitl [Hb0]; · iexact Hb0
    isplitl [Hb1]; · iexact Hb1
    isplitl [Hb2]; · iexact Hb2
    iexact Hb3
  isplitl [Hf]
  · iapply (Entails.of_eq (congrArg (free d L) drain_end)); iexact Hf
  iexact Hw

include hv in
/-- The body: from what the tile holds to the same with its rows of the result written. -/
theorem wp_body :
    iprop(Holds d L m m O W ∗ (Holds d L m m' O W -∗ Q ⟨⟩)) ⊢ WP d L (Jobs.body L) Q := by
  have h := wp_steps (k := tailEnd L) (Q := Q) (O := O) (W := W) hv 64 (j := 0) (by omega)
  unfold Inv at h
  unfold Jobs.body
  rw [show Holds d L m m O W = iprop(bigSep (hi 0) (srcP d L m) ∗ bigSep (hi 0) (dstP d L m)
    ∗ (slotAny d L 0 ∗ slotAny d L 1 ∗ slotAny d L 2 ∗ slotAny d L 3) ∗ free d L ∅ ∗ Ow d L O W) by rw [hi_zero]; rfl]
  iintro ⟨⟨Hsh, Hdh, ⟨Hb0, Hb1, Hb2, Hb3⟩, Hf, Hw⟩, Hk⟩
  iapply (ring_startIn (n := 0) (r := 0) (by omega) rfl (fill_in 0))
  isplitl [Hsh]; · iexact Hsh
  isplitl [Hb0]; · iexact Hb0
  isplitl [Hf]; · iexact Hf
  iintro ⟨Hi0, Hsh, Hf⟩
  iapply (ring_startIn (n := 1) (r := 1) (by omega) rfl (fill_in 1))
  isplitl [Hsh]; · iexact Hsh
  isplitl [Hb1]; · iexact Hb1
  isplitl [Hf]; · iexact Hf
  iintro ⟨Hi1, Hsh, Hf⟩
  iapply (ring_startIn (n := 2) (r := 2) (by omega) rfl (fill_in 2))
  isplitl [Hsh]; · iexact Hsh
  isplitl [Hb2]; · iexact Hb2
  isplitl [Hf]; · iexact Hf
  iintro ⟨Hi2, Hsh, Hf⟩
  iapply (ring_startIn (n := 3) (r := 3) (by omega) rfl (fill_in 3))
  isplitl [Hsh]; · iexact Hsh
  isplitl [Hb3]; · iexact Hb3
  isplitl [Hf]; · iexact Hf
  iintro ⟨Hi3, Hsh, Hf⟩
  iapply (ring_waitIn (n := 0) (by omega) fill_wait)
  isplitl [Hi0]; · iexact Hi0
  isplitl []
  · iapply (Entails.of_eq (show (iprop(emp) : sProp 𝕄) = bigSep (lo 0) (srcP d L m) by rw [lo_zero]; rfl)); iempintro
  isplitl [Hf]; · iexact Hf
  isplitl [Hw]; · iexact Hw
  iintro ⟨Hb, Hsl, Hf, Hw⟩
  iapply (ring_startOut hv (n := 0) (by omega) fill_out)
  isplitl [Hb]; · iexact Hb
  isplitl [Hdh]; · iexact Hdh
  isplitl [Hf]; · iexact Hf
  iintro ⟨Ho, Hdh, Hf⟩
  iapply h
  isplitr [Hk]
  · isplitl [Ho]; · iexact Ho
    isplitl [Hi1]; · iexact Hi1
    isplitl [Hi2]; · iexact Hi2
    isplitl [Hi3]; · iexact Hi3
    isplitl [Hf]
    · iapply (Entails.of_eq (congrArg (free d L) busy_one)); iexact Hf
    isplitl [Hsl]; · iexact Hsl
    isplitl [Hsh]; · iexact Hsh
    isplitl []
    · iapply (Entails.of_eq (show (iprop(emp) : sProp 𝕄) = bigSep (lo 0) (dstP d L m') by rw [lo_zero]; rfl)); iempintro
    isplitl [Hdh]; · iexact Hdh
    iexact Hw
  · iintro HI
    iapply (wp_tailEnd hv)
    isplitl [HI]
    · unfold Inv; iexact HI
    iexact Hk

end Rules

end Cert.Proof.Run

end
-- ==== Proof.Pieces.lean ====
/-
  The pieces of the three arrays that the jobs of all tiles read and write: they do not meet, those written fill the result, and each
  job's values are the result's.
-/
module

public import proofs.«01_k».proof.Proof.Body
public import proofs.«01_k».proof.Proof.Value
public import Idealize.ShloMosaic.Lib.Pipeline.ValueKit.Geometry

@[expose] public section

noncomputable section

namespace Cert.Proof.Run

open Cert.KernelIdeal Cert.KernelIdeal.Gen Cert.Proof.Jobs Cert.Proof.Geo Cert.Proof.Value
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of tile `s` of SparseCore `c`. -/
abbrev coords (c : Fin 2) (s : Fin 16) : grid0.Coords := fun
  | 0 => c
  | 1 => s
  | ⟨_ + 2, h⟩ => absurd h (Nat.not_lt.2 (Nat.le_add_left _ _))

/-- A job: its SparseCore, its tile and its number there. -/
abbrev Job : Type := Fin 2 × Fin 16 × Fin 68
/-- The coordinates of a job's tile. -/
abbrev Job.at (t : Job) : grid0.Coords := coords t.1 t.2.1

/-- The batch of a job, in numbers. -/
theorem batch_job (t : Job) : batch t.at t.2.2 = 2 * (16 * t.1.val + t.2.1.val) + t.2.2.val / 34 := batch_eq t.at t.2.2.val t.2.2.isLt

/-- Jobs of the same batch at the same place in it are the same. -/
theorem job_ext {t t' : Job} (hb : batch t.at t.2.2 = batch t'.at t'.2.2) (hk : kOf t.2.2 = kOf t'.2.2) : t = t' := by
  obtain ⟨c, s, j⟩ := t; obtain ⟨c', s', j'⟩ := t'
  rw [batch_job, batch_job] at hb
  have := c.isLt; have := c'.isLt; have := s.isLt; have := s'.isLt; have := j.isLt; have := j'.isLt
  unfold kOf at hk
  simp only at hb hk
  have hc : c = c' := Fin.ext (by omega)
  have hs : s = s' := Fin.ext (by omega)
  have hj : j = j' := Fin.ext (by omega)
  rw [hc, hs, hj]

/-! ## What is read -/

/-- The rows of the cache job `j` reads, if it reads the cache, -/
def cacheS (L : grid0.Coords) (j : Fin 68) : Finset S64x8192x128.Idx :=
  if h : kOf j < 33 then (Rect.unit (s := S64x8192x128) ![batch L j, srcRow j, 0] (S1r (rows j)).size (src_inb L j h)).set else ∅
/-- and of the update, if it reads that. -/
def updS (L : grid0.Coords) (j : Fin 68) : Finset S64x16x128.Idx :=
  if h : kOf j < 33 then ∅ else (Rect.unit (s := S64x16x128) ![batch L j, 0, 0] (S1r (rows j)).size (upd_inb L j h)).set

/-- Which rows of the cache a job reads. -/
theorem mem_cache {L : grid0.Coords} {j : Fin 68} {i : S64x8192x128.Idx} (h : i ∈ cacheS L j) :
    kOf j < 33 ∧ (i 0).val = batch L j ∧ srcRow j ≤ (i 1).val ∧ (i 1).val < srcRow j + rows j := by
  unfold cacheS at h
  split at h
  · next hk =>
    rw [Rect.mem_set_unit] at h
    have h0 : batch L j ≤ (i 0).val ∧ (i 0).val < batch L j + 1 := h 0
    have h1 : srcRow j ≤ (i 1).val ∧ (i 1).val < srcRow j + rows j := h 1
    exact ⟨hk, by omega, h1.1, h1.2⟩
  · exact absurd h (Finset.notMem_empty _)

/-- Which rows of the update it reads. -/
theorem mem_upd {L : grid0.Coords} {j : Fin 68} {i : S64x16x128.Idx} (h : i ∈ updS L j) :
    ¬ kOf j < 33 ∧ (i 0).val = batch L j := by
  unfold updS at h
  split at h
  · exact absurd h (Finset.notMem_empty _)
  · next hk =>
    rw [Rect.mem_set_unit] at h
    have h0 : batch L j ≤ (i 0).val ∧ (i 0).val < batch L j + 1 := h 0
    exact ⟨hk, by omega⟩

/-- Two jobs read different rows of the cache, -/
theorem cache_disjoint (t t' : Job) (h : t ≠ t') : Disjoint (cacheS t.at t.2.2) (cacheS t'.at t'.2.2) := by
  rw [Finset.disjoint_left]
  intro i hi hi'
  obtain ⟨hk, hb, h1, h2⟩ := mem_cache hi
  obtain ⟨hk', hb', h1', h2'⟩ := mem_cache hi'
  refine h (job_ext (hb.symm.trans hb') ?_)
  have r := rows_le t.2.2; have r' := rows_le t'.2.2
  unfold srcRow at h1 h2 h1' h2'
  omega

/-- and of the update. -/
theorem upd_disjoint (t t' : Job) (h : t ≠ t') : Disjoint (updS t.at t.2.2) (updS t'.at t'.2.2) := by
  rw [Finset.disjoint_left]
  intro i hi hi'
  obtain ⟨hk, hb⟩ := mem_upd hi
  obtain ⟨hk', hb'⟩ := mem_upd hi'
  have : kOf t.2.2 < 34 := Nat.mod_lt _ (by decide)
  have : kOf t'.2.2 < 34 := Nat.mod_lt _ (by decide)
  exact h (job_ext (hb.symm.trans hb') (by omega))

/-! ## What is written -/

/-- Where a job's rows end: the next one's begin there. -/
theorem dst_end (j : ℕ) (h : kOf j < 34) :
    dstRow j + rows j ≤ 248 * (kOf j + 1) ∧ (kOf j < 33 → dstRow j + rows j ≤ 8176) := by
  unfold dstRow rows
  split <;> (try split) <;> omega

/-- Two jobs write different rows of the result, -/
theorem dst_disjoint (t t' : Job) (h : t ≠ t') : Disjoint (dstS t.at t.2.2) (dstS t'.at t'.2.2) := by
  rw [Finset.disjoint_left]
  intro i hi hi'
  obtain ⟨hb, h1, h2⟩ := mem_dst.1 hi
  obtain ⟨hb', h1', h2'⟩ := mem_dst.1 hi'
  refine h (job_ext (hb.symm.trans hb') ?_)
  have this : kOf t.2.2 < 34 := Nat.mod_lt _ (by decide)
  have this' : kOf t'.2.2 < 34 := Nat.mod_lt _ (by decide)
  have e := dst_end t.2.2 this; have e' := dst_end t'.2.2 this'
  unfold dstRow at h1 h1'
  split at h1 <;> split at h1' <;> omega

/-- and every row is some job's. -/
theorem dst_cover : (Finset.univ : Finset Job).biUnion (fun t => dstS t.at t.2.2) = Finset.univ := by
  apply Finset.eq_univ_of_forall
  intro i
  rw [Finset.mem_biUnion]
  have h0 : (i 0).val < 64 := (i 0).isLt
  have h1 : (i 1).val < 8192 := (i 1).isLt
  have key : ∀ k, k < 34 → dstRow k ≤ (i 1).val → (i 1).val < dstRow k + rows k →
      ∃ t ∈ (Finset.univ : Finset Job), i ∈ dstS t.at t.2.2 := by
    intro k hk h2 h3
    refine ⟨(⟨(i 0).val / 32, by omega⟩, ⟨(i 0).val / 2 % 16, by omega⟩, ⟨34 * ((i 0).val % 2) + k, by omega⟩), Finset.mem_univ _, mem_dst.2 ⟨?_, ?_⟩⟩
    · rw [batch_job]; simp only; omega
    · have e : kOf (34 * ((i 0).val % 2) + k) = kOf k := by unfold kOf; omega
      have e₁ : dstRow (34 * ((i 0).val % 2) + k) = dstRow k := by unfold dstRow; rw [e]
      have e₂ : rows (34 * ((i 0).val % 2) + k) = rows k := by unfold rows; rw [e]
      simp only [e₁, e₂]
      exact ⟨h2, h3⟩
  by_cases h : (i 1).val < 8176
  · have e : kOf ((i 1).val / 248) = (i 1).val / 248 := Nat.mod_eq_of_lt (by omega)
    refine key ((i 1).val / 248) (by omega) ?_ ?_ <;> unfold dstRow <;> rw [e, if_pos (by omega)]
    · omega
    · unfold rows; rw [e, if_pos (show (i 1).val / 248 < 33 by omega)]; split <;> omega
  · refine key 33 (by decide) ?_ ?_
    · show 8176 ≤ (i 1).val; omega
    · show (i 1).val < 8176 + 16; omega

/-! ## Nothing, beside something -/

/-- Nothing on the right may be dropped. -/
theorem right_emp (P : sProp 𝕄) : iprop(P ∗ emp) = P := equiv_iff.mp BI.sep_emp
/-- Nothing on the left may be dropped. -/
theorem left_emp (P : sProp 𝕄) : iprop(emp ∗ P) = P := equiv_iff.mp BI.emp_sep

/-! ## Where a device's arrays lie -/

section Locs

variable (d : Dev nD)

/-- The places of the cache, the update and the result on device `d`. -/
abbrev cLoc : Loc nD τ sig := (SparseCore.T d).loc main_arg0
abbrev uLoc : Loc nD τ sig := (SparseCore.T d).loc main_arg1
abbrev oLoc : Loc nD τ sig := (SparseCore.T d).loc main_v0

variable (m : Mem F)

/-- The result the memory `m` asks for. -/
def out : Buf (Elt F) (oLoc d) := moved (α := Elt F .f32) (m (cLoc d)) (m (uLoc d))
/-- The memory with the results written. -/
def done : Mem F := Function.update m (oLoc d) (out d m)

/-- In the memory at the end the result is `out`. -/
theorem done_out : done d m (oLoc d) = out d m := Function.update_self _ _ _

variable (L : grid0.Coords)

/-- What a job reads is its rows of the cache and its rows of the update: there are only the ones or the others. -/
theorem srcP_eq (j : Fin 68) :
    (srcP d L m j : sProp 𝕄)
      = iprop((cLoc d ↦[(cacheS L j : Finset (Idx (cLoc d)))]{fullShare} m (cLoc d)) ∗ (uLoc d ↦[(updS L j : Finset (Idx (uLoc d)))]{fullShare} m (uLoc d))) := by
  have key : ∀ M : Memref sig .scVector .hbm (Sr (rows j)) .f32, src L j = M →
      (srcP d L m j : sProp 𝕄) = iprop(M.view.loc (thr d L) ↦[M.view.set]{fullShare} m (M.view.loc (thr d L))) := by
    rintro _ rfl; rfl
  by_cases h : kOf j < 33
  · rw [key _ (dif_pos h)]
    unfold cacheS updS
    rw [dif_pos h, dif_pos h, pointsTo_empty, right_emp]
    exact congrArg (fun s : Finset (Idx (cLoc d)) => (cLoc d ↦[s]{fullShare} m (cLoc d) : sProp 𝕄))
      ((View.set_reshape _ _).trans (View.set_slice_whole _ _))
  · rw [key _ (dif_neg h)]
    unfold cacheS updS
    rw [dif_neg h, dif_neg h, pointsTo_empty, left_emp]
    exact congrArg (fun s : Finset (Idx (uLoc d)) => (uLoc d ↦[s]{fullShare} m (uLoc d) : sProp 𝕄))
      ((View.set_reshape _ _).trans (View.set_slice_whole _ _))

/-- What a job writes, by the result's place. -/
theorem dstP_eq (μ : Mem F) (j : Fin 68) : (dstP d L μ j : sProp 𝕄) = iprop(oLoc d ↦[(dstS L j : Finset (Idx (oLoc d)))]{fullShare} μ (oLoc d)) := rfl

/-- Every job carries the result's rows. -/
theorem carries (j : Fin 68) : (dst L j).view.read (Elt F) (done d m ((dst L j).view.loc (thr d L))) = val d L m j := by
  have e : done d m ((dst L j).view.loc (thr d L)) = out d m := done_out d m
  rw [e]
  have key : ∀ M : Memref sig .scVector .hbm (Sr (rows j)) .f32, src L j = M →
      val d L m j = M.view.read (Elt F) (m (M.view.loc (thr d L))) := by
    rintro _ rfl; rfl
  have hk34 : kOf j < 34 := Nat.mod_lt _ (by decide)
  funext x
  have hx0 : ∀ y : (S1r (rows j)).Idx, (y 0).val < 1 ∧ (y 1).val < rows j := fun y => ⟨(y 0).isLt, (y 1).isLt⟩
  obtain ⟨y0, y1⟩ := hx0 (Shape.reshapeEquiv (sq1 j).numel_eq x)
  have hd : ∀ a : Fin 3, ((dst L j).view.emb x a).val = (![batch L j, dstRow j, 0] : Fin 3 → ℕ) a + (Shape.reshapeEquiv (sq1 j).numel_eq x a).val :=
    fun a => ValueKit.view_emb_slice_whole_unit_val main_v0_scv _ _ (dst_inb L j) _ a
  by_cases h : kOf j < 33
  · rw [key _ (dif_pos h)]
    have hs : ∀ a : Fin 3, ((View.reshape ((View.whole main_arg0_scv).slice (Rect.unit (s := S64x8192x128) ![batch L j, srcRow j, 0] (S1r (rows j)).size (src_inb L j h))) (Sr (rows j)) (sq1 j).numel_eq).emb x a).val
        = (![batch L j, srcRow j, 0] : Fin 3 → ℕ) a + (Shape.reshapeEquiv (sq1 j).numel_eq x a).val :=
      fun a => ValueKit.view_emb_slice_whole_unit_val main_arg0_scv _ _ (src_inb L j h) _ a
    have e1 : srcRow j = dstRow j + 16 := by unfold srcRow dstRow; rw [if_pos h]
    have e2 := (dst_end j hk34).2 h
    have d1 := hd 1; have s1 := hs 1
    refine moved_cache (α := Elt F .f32) ?_ ((hs 0).trans (hd 0).symm) ?_ ((hs 2).trans (hd 2).symm)
    · refine lt_of_eq_of_lt d1 ?_
      show dstRow j + _ < 8176
      omega
    · refine s1.trans (.trans ?_ (congrArg (· + 16) d1.symm))
      show srcRow j + _ = dstRow j + _ + 16
      omega
  · rw [key _ (dif_neg h)]
    have hs : ∀ a : Fin 3, ((View.reshape ((View.whole main_arg1_scv).slice (Rect.unit (s := S64x16x128) ![batch L j, 0, 0] (S1r (rows j)).size (upd_inb L j h))) (Sr (rows j)) (sq1 j).numel_eq).emb x a).val
        = (![batch L j, 0, 0] : Fin 3 → ℕ) a + (Shape.reshapeEquiv (sq1 j).numel_eq x a).val :=
      fun a => ValueKit.view_emb_slice_whole_unit_val main_arg1_scv _ _ (upd_inb L j h) _ a
    have e1 : dstRow j = 8176 := by unfold dstRow; rw [if_neg h]
    have d1 := hd 1; have s1 := hs 1
    refine moved_update (α := Elt F .f32) ((hs 0).trans (hd 0).symm) ?_ ((hs 2).trans (hd 2).symm)
    refine (congrArg (8176 + ·) s1).trans (.trans ?_ d1.symm)
    show 8176 + (0 + _) = dstRow j + _
    omega

end Locs

end Cert.Proof.Run

end
-- ==== Proof.Launch.lean ====
/-
  The launch: what the TensorCore hands each SparseCore and tile, how the arrays and the shared memory split into the tiles' parts and
  join again, and the whole program's run.
-/
module

public import proofs.«01_k».proof.Proof.Pieces

@[expose] public section

noncomputable section

namespace Cert.Proof.Run

open Cert.KernelIdeal Cert.KernelIdeal.Gen Cert.Proof.Jobs Cert.Proof.Geo
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's part -/

/-- The array rows the tile at `L` reads and writes, the written ones as the memory `μ` has them, -/
def tileM (m : Mem F) (d : Dev nD) (L : grid0.Coords) (μ : Mem F) : sProp 𝕄 :=
  iprop(bigSep Finset.univ (srcP d L m) ∗ bigSep Finset.univ (dstP d L μ))
/-- and its four slots. -/
def slots (d : Dev nD) (L : grid0.Coords) : sProp 𝕄 := bigSep Finset.univ fun k : Fin 4 => slotAny d L k.val

/-- The resources of a job may be handed over with a signal. -/
instance srcP_storable (m : Mem F) (d : Dev nD) (L : grid0.Coords) (j : Fin 68) : BI.Storable (upEmb : UEmb _ 𝕄) (srcP d L m j) := by
  unfold srcP; infer_instance
instance dstP_storable (μ : Mem F) (d : Dev nD) (L : grid0.Coords) (j : Fin 68) : BI.Storable (upEmb : UEmb _ 𝕄) (dstP d L μ j) := by
  unfold dstP; infer_instance
instance slotAny_storable (d : Dev nD) (L : grid0.Coords) (k : ℕ) : BI.Storable (upEmb : UEmb _ 𝕄) (slotAny (F := F) d L k) := by
  unfold slotAny; infer_instance
instance tileM_storable (m μ : Mem F) (d : Dev nD) (L : grid0.Coords) : BI.Storable (upEmb : UEmb _ 𝕄) (tileM m d L μ) := by
  unfold tileM; infer_instance
instance slots_storable (d : Dev nD) (L : grid0.Coords) : BI.Storable (upEmb : UEmb _ 𝕄) (slots (F := F) d L) := by
  unfold slots; infer_instance

/-- A tile's slots, one by one. -/
theorem slots_eq (d : Dev nD) (L : grid0.Coords) :
    (slots d L : sProp 𝕄) = iprop(slotAny d L 0 ∗ slotAny d L 1 ∗ slotAny d L 2 ∗ slotAny d L 3) := by
  unfold slots
  rw [show (Finset.univ : Finset (Fin 4)) = {0, 1, 2, 3} from by decide, SparseCore.bigSep_insert' (by decide), SparseCore.bigSep_insert' (by decide),
    SparseCore.bigSep_insert' (by decide), bigSep_singleton]
  rfl

/-! ## The tile's semaphores -/

/-- The kernel's twelve, among the tile's own. -/
def mine (d : Dev nD) (L : grid0.Coords) : Finset (GSem nD τ sig) := Finset.univ.image fun q : Fin 12 => (thr d L, SemLoc.dma q)

/-- Each of the twelve belongs to the kernel. -/
theorem scoped_dma : ∀ q : Fin 12, (SemLoc.dma q : SemLoc sig).isScoped .scVector = true := by decide

/-- The twelve are among the tile's own. -/
theorem mine_subset (d : Dev nD) (L : grid0.Coords) : mine d L ⊆ ownCells (thr d L) := by
  intro g hg
  obtain ⟨q, -, rfl⟩ := Finset.mem_image.1 hg
  exact mem_ownCells.2 ⟨rfl, scoped_dma q⟩

/-- A tile's counters are the kernel's twelve and the rest. -/
theorem sems_eq (d : Dev nD) (L : grid0.Coords) :
    (ownSems0 (thr d L) : sProp 𝕄) = iprop(free d L ∅ ∗ bigSep (ownCells (thr d L) \ mine d L) fun g => semVal g 0) := by
  unfold SparseCore.Cfg.ownSems0
  rw [SparseCore.bigSep_sdiff_split' (mine_subset d L)]
  have h : (bigSep (mine d L) fun g => (semVal g 0 : sProp 𝕄)) = free d L ∅ := by
    unfold mine free
    rw [Finset.sdiff_empty]
    exact SparseCore.bigSep_image_of_injOn (fun a _ b _ e => SemLoc.dma.inj (Prod.mk.inj e).2) _
  rw [h]

/-! ## The task -/

section Task

variable (m : Mem F) (d : Dev nD) (L : grid0.Coords)

/-- The task on tile `L` of device `d`: its rows of the result get written. -/
theorem tile_body (hF : (K (F := F)).Facts) (O : CellTallies nD τ sig (HIx 1)) (W : Waits sig (HIx 1)) (hO : ∀ g, O g none = 0)
    (B : HIx 1 → Prop) :
    iprop(levAts (K (F := F)).L (K (F := F)).lev ∗ emp ∗ (tileM m d L m ∗ slots d L)
        ∗ scopedBufs (thr d L) ∗ scopedSems0 (thr d L) ∗ owes (thr d L) O W)
      ⊢ wp frame (wpE (defs₀ (F := F)) 𝒱₀ (thr d L) none) Set.univ
          (cc0__sc_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            cc0_scratch1 cc0_scratch2 cc0_scratch3 cc0_scratch4 cc0_scratch5 cc0_scratch6)
          fun _ => iprop((tileM m d L (done d m) ∗ slots d L)
            ∗ scopedBufs (thr d L) ∗ scopedSems0 (thr d L)
            ∗ ∃ W', ⌜∀ p ∈ W', p ∈ W ∨ p.2 = none ∨ B p.2⌝ ∗ owes (thr d L) O W') := by
  rw [SparseCore.Cfg.scopedSems0_V (Val := Elt F) d (cV L) (jV L), sems_eq, slots_eq]
  rw [body_eq]
  unfold tileM
  iintro ⟨#Hlv, -, ⟨⟨Hs, Hd⟩, Hsl⟩, Hb, ⟨Hfr, Hsm⟩, HO⟩
  ihave Hmw := (show levAts (K (F := F)).L (K (F := F)).lev ⊢ Transfers.MayWaits (thr d L) (none : HIx 1) O from
    (K (F := F)).mayWaits_none (thr := thr d L) hO) $$ Hlv
  iapply (wp_body (d := d) (L := L) (m := m) (m' := done d m) (O := O) (W := W) (carries d m L)) $$ [Hmw Hs Hd Hsl Hb Hfr Hsm HO]
  isplitl [Hmw Hs Hd Hsl Hfr HO]
  · unfold Holds Ow
    isplitl [Hs]; · iexact Hs
    isplitl [Hd]; · iexact Hd
    isplitl [Hsl]; · iexact Hsl
    isplitl [Hfr]; · iexact Hfr
    isplitl [Hmw]; · iexact Hmw
    iexists W
    isplitr; · ipureintro; exact fun p hp => .inl hp
    iexact HO
  unfold Holds Ow
  iintro ⟨Hs, Hd, Hsl, Hfr, -, %W', %hW, HO⟩
  isplitl [Hs Hd Hsl]
  · isplitl [Hs Hd]
    · isplitl [Hs] <;> iassumption
    · iexact Hsl
  isplitl [Hb]; · iexact Hb
  isplitl [Hfr Hsm]
  · isplitl [Hfr] <;> iassumption
  iexists W'
  isplitr; · ipureintro; exact fun p hp => (hW p hp).imp id .inl
  iexact HO

end Task

/-! ## The arrays split and join -/

/-- A family over all jobs, by SparseCore, tile and number. -/
theorem jobs_eq (Φ : Job → sProp 𝕄) :
    bigSep Finset.univ Φ = bigSep Finset.univ fun c : Fin 2 => bigSep Finset.univ fun s : Fin 16 => bigSep Finset.univ fun j : Fin 68 => Φ (c, s, j) := by
  rw [bigSep_univ_prod]
  exact bigSep_congr fun c _ => bigSep_univ_prod _

/-- The rows of the cache the kernel reads, and of the update. -/
def cacheA : Finset S64x8192x128.Idx := Finset.univ.biUnion fun t : Job => cacheS t.at t.2.2
def updA : Finset S64x16x128.Idx := Finset.univ.biUnion fun t : Job => updS t.at t.2.2

section Arrays

variable (m : Mem F) (d : Dev nD)

/-- The rows read of the cache are those of the jobs. -/
theorem cache_split (f : Buf (Elt F) (cLoc d)) :
    (cLoc d ↦[(cacheA : Finset (Idx (cLoc d)))]{fullShare} f : sProp 𝕄)
      = bigSep Finset.univ fun t : Job => cLoc d ↦[(cacheS t.at t.2.2 : Finset (Idx (cLoc d)))]{fullShare} f :=
  pointsTo_biUnion Finset.univ (ℓ := cLoc d) (fun t : Job => cacheS t.at t.2.2) fun t _ t' _ h => cache_disjoint t t' h

/-- The rows read of the update are those of the jobs. -/
theorem upd_split (f : Buf (Elt F) (uLoc d)) :
    (uLoc d ↦[(updA : Finset (Idx (uLoc d)))]{fullShare} f : sProp 𝕄)
      = bigSep Finset.univ fun t : Job => uLoc d ↦[(updS t.at t.2.2 : Finset (Idx (uLoc d)))]{fullShare} f :=
  pointsTo_biUnion Finset.univ (ℓ := uLoc d) (fun t : Job => updS t.at t.2.2) fun t _ t' _ h => upd_disjoint t t' h

/-- The whole result is the rows that the jobs write. -/
theorem out_split (f : Buf (Elt F) (oLoc d)) :
    (oLoc d ↦{fullShare} f : sProp 𝕄)
      = bigSep Finset.univ fun t : Job => oLoc d ↦[(dstS t.at t.2.2 : Finset (Idx (oLoc d)))]{fullShare} f :=
  (congrArg (fun s : Finset (Idx (oLoc d)) => (oLoc d ↦[s]{fullShare} f : sProp 𝕄)) dst_cover.symm).trans
    (pointsTo_biUnion Finset.univ (ℓ := oLoc d) (fun t : Job => dstS t.at t.2.2) fun t _ t' _ h => dst_disjoint t t' h)

/-- All the tiles' rows are the rows read of the cache and of the update, and the whole result. -/
theorem tiles_eq (μ : Mem F) :
    (bigSep Finset.univ fun c : Fin 2 => bigSep Finset.univ fun s : Fin 16 => (tileM m d (coords c s) μ : sProp 𝕄))
      = iprop(((cLoc d ↦[(cacheA : Finset (Idx (cLoc d)))]{fullShare} m (cLoc d)) ∗ (uLoc d ↦[(updA : Finset (Idx (uLoc d)))]{fullShare} m (uLoc d)))
          ∗ oLoc d ↦{fullShare} μ (oLoc d)) := by
  rw [cache_split, upd_split, out_split, ← bigSep_sep', ← bigSep_sep', jobs_eq]
  refine bigSep_congr fun c _ => bigSep_congr fun s _ => ?_
  unfold tileM
  rw [bigSep_sep']
  congr 1
  exact bigSep_congr fun j _ => srcP_eq d m (coords c s) j

end Arrays

/-! ## The shared memory split and joined -/

/-- A SparseCore's shared memory. -/
abbrev shRef (c : Fin τ.nSC) : DevRef τ sig := ⟨.shared, ⟨0, by decide⟩, c⟩
/-- Its place on device `d`. -/
abbrev shLoc (d : Dev nD) (c : Fin τ.nSC) : Loc nD τ sig := (d, shRef c)

/-- The slots of all tiles of a SparseCore. -/
abbrev laneOf (p : Fin 16 × Fin 4) : Finset S16x4x248x128.Idx := lane p.1.val p.2.val

/-- Different slots have no element in common. -/
theorem lane_disjoint (p p' : Fin 16 × Fin 4) (h : p ≠ p') : Disjoint (laneOf p) (laneOf p') := by
  rw [Finset.disjoint_left]
  intro i hi hi'
  have e := mem_lane.1 hi; have e' := mem_lane.1 hi'
  exact h (Prod.ext (Fin.ext (e.1.symm.trans e'.1)) (Fin.ext (e.2.symm.trans e'.2)))

/-- The slots make up the shared memory. -/
theorem lane_cover : (Finset.univ : Finset (Fin 16 × Fin 4)).biUnion laneOf = Finset.univ := by
  apply Finset.eq_univ_of_forall
  intro i
  rw [Finset.mem_biUnion]
  exact ⟨(⟨(i 0).val, (i 0).isLt⟩, ⟨(i 1).val, (i 1).isLt⟩), Finset.mem_univ _, mem_lane.2 ⟨rfl, rfl⟩⟩

/-- A slot at any contents, by its tile's number. -/
theorem slotAny_eq (d : Dev nD) (c : Fin 2) (s : Fin 16) (k : ℕ) :
    (slotAny d (coords c s) k : sProp 𝕄)
      = iprop(∃ f, shLoc d (cV (coords c s)) ↦[(lane s.val k : Finset (Idx (shLoc d (cV (coords c s)))))]{fullShare} f) := by
  unfold slotAny
  rw [show tileNo (coords c s) = s.val from tileNo_eq (coords c s)]
  rfl

/-- A family over a SparseCore's slots, by tile. -/
theorem lanes_eq (Φ : Fin 16 × Fin 4 → sProp 𝕄) :
    bigSep Finset.univ Φ = bigSep Finset.univ fun s : Fin 16 => bigSep Finset.univ fun k : Fin 4 => Φ (s, k) := bigSep_univ_prod _

/-- All tiles' slots, at any contents. -/
theorem slots_all (d : Dev nD) (c : Fin 2) :
    (bigSep Finset.univ fun s : Fin 16 => (slots d (coords c s) : sProp 𝕄))
      = bigSep Finset.univ fun p : Fin 16 × Fin 4 =>
          iprop(∃ f, shLoc d (c.castLE hcore0) ↦[(laneOf p : Finset (Idx (shLoc d (c.castLE hcore0))))]{fullShare} f) := by
  rw [lanes_eq]
  refine bigSep_congr fun s _ => ?_
  unfold slots
  exact bigSep_congr fun k _ => slotAny_eq d c s k.val

/-- The shared memory splits into its tiles' slots. -/
theorem slots_split (d : Dev nD) (c : Fin 2) (f : Buf (Elt F) (shLoc d (c.castLE hcore0))) :
    (shLoc d (c.castLE hcore0) ↦{fullShare} f : sProp 𝕄) ⊢ bigSep Finset.univ fun s : Fin 16 => slots d (coords c s) := by
  rw [slots_all]
  refine (Entails.of_eq ((congrArg (fun s : Finset (Idx (shLoc d (c.castLE hcore0))) => (shLoc d (c.castLE hcore0) ↦[s]{fullShare} f : sProp 𝕄)) lane_cover.symm).trans
    (pointsTo_biUnion Finset.univ (ℓ := shLoc d (c.castLE hcore0)) laneOf fun p _ p' _ h => lane_disjoint p p' h))).trans ?_
  exact SparseCore.ent (bigSep_mono fun p _ => BI.BIClass.exists_intro
    (Φ := fun f => (shLoc d (c.castLE hcore0) ↦[(laneOf p : Finset (Idx (shLoc d (c.castLE hcore0))))]{fullShare} f : sProp 𝕄)) f)

/-- The tiles' slots join to the shared memory. -/
theorem slots_join (d : Dev nD) (c : Fin 2) :
    (bigSep Finset.univ fun s : Fin 16 => (slots d (coords c s) : sProp 𝕄)) ⊢ iprop(∃ f, shLoc d (c.castLE hcore0) ↦{fullShare} f) := by
  rw [slots_all]
  refine (bigSep_exists_pi Finset.univ (fun p (f : Buf (Elt F) (shLoc d (c.castLE hcore0))) =>
    (shLoc d (c.castLE hcore0) ↦[(laneOf p : Finset (Idx (shLoc d (c.castLE hcore0))))]{fullShare} f : sProp 𝕄))).trans ?_
  have hj := fun fs : Fin 16 × Fin 4 → Buf (Elt F) (shLoc d (c.castLE hcore0)) =>
    pointsTo_biUnion_join (Ix := HIx 1) (Name := ℕ) (U := UU) (Lvl := ℕ) (q := fullShare) Finset.univ laneOf fs (fs (0, 0)) fun p _ p' _ h => lane_disjoint p p' h
  rw [lane_cover] at hj
  iintro ⟨%fs, H⟩
  ihave H' := (hj fs) $$ H
  icases H' with ⟨%g, -, Hg⟩
  iexists g; iexact Hg

/-- A SparseCore's own memory is the shared memory and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## What the launch's signals carry -/

section Signals

variable (m : Mem F) (ρ : Dev nD → PrngReg)

/-- What a SparseCore has: its tiles' rows. -/
@[irreducible] def coreM (d : Dev nD) (c : Fin 2) (μ : Mem F) : sProp 𝕄 := bigSep Finset.univ fun i : Fin 16 => tileM m d (coords c i) μ
/-- What a tile has: its rows and its slots. -/
@[irreducible] def taskM (d : Dev nD) (c : Fin 2) (i : Fin 16) (μ : Mem F) : sProp 𝕄 := iprop(tileM m d (coords c i) μ ∗ slots d (coords c i))

/-- Both may be handed over with a signal. -/
instance coreM_storable (d : Dev nD) (c : Fin 2) (μ : Mem F) : BI.Storable (upEmb : UEmb _ 𝕄) (coreM m d c μ) := by
  unfold coreM; infer_instance
instance taskM_storable (d : Dev nD) (c : Fin 2) (i : Fin 16) (μ : Mem F) : BI.Storable (upEmb : UEmb _ 𝕄) (taskM m d c i μ) := by
  unfold taskM; infer_instance

/-- A SparseCore gets its tiles' rows, a tile its own and its slots; each gives them back, the result's rows written. -/
def P : (K (F := F)).Pay (nD := nD) (Val := Elt F) (Name := ℕ) (U := UU) where
  st := fun q d c => match q with | 0 => coreM m d (Fin.cast nCore_zero c) m
  dn := fun q d c => match q with | 0 => coreM m d (Fin.cast nCore_zero c) (done d m)
  go := fun q d c i => match q with | 0 => taskM m d (Fin.cast nCore_zero c) (Fin.cast nSub_zero i) m
  td := fun q d c i => match q with | 0 => taskM m d (Fin.cast nCore_zero c) (Fin.cast nSub_zero i) (done d m)
  x := fun _ _ => iprop(emp)

/-- What starts a SparseCore. -/
theorem P_st (d : Dev nD) (c : Fin ((K (F := F)).nCore 0)) : (P m).st 0 d c = coreM m d (Fin.cast nCore_zero c) m := rfl
/-- What it gives back. -/
theorem P_dn (d : Dev nD) (c : Fin ((K (F := F)).nCore 0)) : (P m).dn 0 d c = coreM m d (Fin.cast nCore_zero c) (done d m) := rfl
/-- What starts a tile. -/
theorem P_go (d : Dev nD) (c : Fin ((K (F := F)).nCore 0)) (i : Fin ((K (F := F)).nSub 0)) :
    (P m).go 0 d c i = taskM m d (Fin.cast nCore_zero c) (Fin.cast nSub_zero i) m := rfl
/-- What it gives back. -/
theorem P_td (d : Dev nD) (c : Fin ((K (F := F)).nCore 0)) (i : Fin ((K (F := F)).nSub 0)) :
    (P m).td 0 d c i = taskM m d (Fin.cast nCore_zero c) (Fin.cast nSub_zero i) (done d m) := rfl

/-- All of it may be handed over with a signal. -/
instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-- What a tile runs is the kernel body at its coordinates. -/
theorem defs₀_vector (c : Fin τ.nSC) (s : Fin τ.nSub) :
    defs₀ (F := F) (.scVector c s) 0 ()
      = SparseCore.onTile hcore0 hsub0 (fun c s => cc0__sc_body (coords c s) (Memref.whole main_arg0_scv) (Memref.isWhole_whole _)
          (Memref.whole main_arg1_scv) (Memref.isWhole_whole _) (Memref.whole main_v0_scv) (Memref.isWhole_whole _)
          (Memref.whole cc0_scratch0) (Memref.isWhole_whole _)
          cc0_scratch1 cc0_scratch2 cc0_scratch3 cc0_scratch4 cc0_scratch5 cc0_scratch6) ⟨⟩ c s := rfl

/-- Every tile does its task. -/
theorem tileObl (hF : (K (F := F)).Facts) : (K (F := F)).TileObl (D (F := F)) 𝒱 (P m) v₀ 0 := by
  intro d c i O W hO _ _
  rw [P_go, P_td]
  unfold taskM
  have hci : ((K (F := F)).core 0 c).val < grid0.bound 0 ∧ ((K (F := F)).sub 0 i).val < grid0.bound 1 := ⟨c.isLt, i.isLt⟩
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [show coords (Fin.cast nCore_zero c) (Fin.cast nSub_zero i) = coords ⟨_, hci.1⟩ ⟨_, hci.2⟩ from rfl]
  rw [show (P m).x 0 (V d ((K (F := F)).core 0 c) ((K (F := F)).sub 0 i)) = iprop(emp) from rfl]
  have h := tile_body m d (coords ⟨_, hci.1⟩ ⟨_, hci.2⟩) hF O W hO (SparseCore.Cfg.Blocks.blk (0 : Fin 1))
  refine BI.Entails.trans ?_ (h.trans ?_)
  · exact BI.Entails.refl _
  clear h
  apply Entails.of_eq
  congr 1

/-- A SparseCore's rows and its shared memory are its tasks' parts, before and after. -/
theorem core_split (d : Dev nD) (c' : Fin 2) :
    iprop(coreM m d c' m ∗ ownBufs (S d (c'.castLE hcore0)))
      ⊢ |={Set.univ}=> iprop((bigSep Finset.univ fun i : Fin 16 => taskM m d c' i m)
        ∗ ((bigSep Finset.univ fun i : Fin 16 => taskM m d c' i (done d m)) -∗ iprop(coreM m d c' (done d m) ∗ ownBufs (S d (c'.castLE hcore0))))) := by
  unfold taskM coreM
  rw [bigSep_sep', bigSep_sep', ownBufs_S]
  iintro ⟨Hm, ⟨%f, Hsh⟩, Hrest⟩; imodintro
  isplitl [Hm Hsh]
  · isplitl [Hm]; · iexact Hm
    iapply (slots_split d c' f); iexact Hsh
  iintro ⟨Hm, Hsl⟩
  isplitl [Hm]; · iexact Hm
  isplitl [Hsl]; · iapply (slots_join d c'); iexact Hsl
  iexact Hrest

/-- What a SparseCore gets is what its tiles get, and what they give back is what it gives back. -/
theorem vecSplit : (K (F := F)).VecSplit (P m) 0 := fun d c => core_split m d (Fin.cast nCore_zero c)

/-! ## The launch's own state -/

/-- The state of the hand-shakes and counters at launch. -/
def u₀ : UU := (initOf (K (F := F)).hsCells (K (F := F)).hsToks, 1)

/-- Nothing, for every member of a family, is nothing. -/
theorem all_emp {I : Type} (s : Finset I) : (bigSep s fun _ => iprop(emp)) = (iprop(emp) : sProp 𝕄) := bigSep_emp_const s

/-- The launch state gives the hand-shakes their tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => ((P m).x q thr : sProp 𝕄)) = iprop(emp) :=
    (bigSep_congr fun _ _ => all_emp _).trans (all_emp _)
  rw [hx, all_emp]
  unfold u₀
  iintro Hu
  ihave H := (ownU_pair _ _) $$ Hu
  icases H with ⟨HH, -⟩
  imodintro
  isplitl [HH]; · iexact HH
  isplitr <;> iempintro

/-! ## The whole program -/

/-- The TensorCore's arrays: the cache, the update and the result. -/
theorem unscopedBufs_eq (d : Dev nD) (W : (b : Ref sig .tc) → Buf (Elt F) ((d.tc : Thread nD τ).loc b)) :
    (unscopedBufs d W : sProp 𝕄) = iprop((cLoc d ↦{fullShare} W main_arg0) ∗ (uLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What both SparseCores are started with. -/
theorem st_eq (d : Dev nD) :
    (bigSep Finset.univ fun c : Fin ((K (F := F)).nCore 0) => (P m).st 0 d c)
      = iprop(((cLoc d ↦[(cacheA : Finset (Idx (cLoc d)))]{fullShare} m (cLoc d)) ∗ (uLoc d ↦[(updA : Finset (Idx (uLoc d)))]{fullShare} m (uLoc d)))
          ∗ oLoc d ↦{fullShare} m (oLoc d)) := by
  refine Eq.trans (bigSep_congr fun c _ => P_st m d c) ?_
  unfold coreM
  exact tiles_eq m d m
/-- What both give back. -/
theorem dn_eq (d : Dev nD) :
    (bigSep Finset.univ fun c : Fin ((K (F := F)).nCore 0) => (P m).dn 0 d c)
      = iprop(((cLoc d ↦[(cacheA : Finset (Idx (cLoc d)))]{fullShare} m (cLoc d)) ∗ (uLoc d ↦[(updA : Finset (Idx (uLoc d)))]{fullShare} m (uLoc d)))
          ∗ oLoc d ↦{fullShare} out d m) := by
  refine Eq.trans (bigSep_congr fun c _ => P_dn m d c) ?_
  unfold coreM
  rw [← done_out d m]; exact tiles_eq m d (done d m)

/-- What the program ends with: the arguments as they were, the result written. -/
abbrev FIN (d : Dev nD) : sProp 𝕄 :=
  iprop((cLoc d ↦{fullShare} m (cLoc d)) ∗ (uLoc d ↦{fullShare} m (uLoc d)) ∗ oLoc d ↦{fullShare} out d m)

/-- Part of an array, and the rest of it. -/
theorem part (ℓ : Loc nD τ sig) (s : Finset (Idx ℓ)) (f : Buf (Elt F) ℓ) :
    (ℓ ↦{fullShare} f : sProp 𝕄) = iprop((ℓ ↦[s]{fullShare} f) ∗ ℓ ↦[Finset.univ \ s]{fullShare} f) :=
  equiv_iff.mp ⟨(pointsTo_split_subset (Finset.subset_univ s)).1, (pointsTo_split_subset (Finset.subset_univ s)).2⟩

/-- The program on device `d`: the one call, from its three arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscopedBufs_eq, part (cLoc d) cacheA (m (cLoc d)), part (uLoc d) updA (m (uLoc d))]
  simp only [main, wp_bind, wp_pure]
  iintro ⟨#Hctx, Hst, ⟨Hb, ⟨⟨Hc, Hc'⟩, ⟨Hu, Hu'⟩, Ho⟩, Hts, -⟩, -⟩
  iapply ((K (F := F)).wp_run (D (F := F)) 𝒱 (EH := EH) (P := P m) κ d 0) $$ [Hst Hc Hc' Hu Hu' Ho Hb Hts]
  isplitr; · iexact Hctx
  isplitl [Hst]; · iexact Hst
  isplitl [Hc Hu Ho]
  · iapply (Entails.of_eq (st_eq m d).symm)
    isplitl [Hc Hu]
    · isplitl [Hc] <;> iassumption
    · iexact Ho
  iintro ⟨Hst, Hdn⟩
  ihave Hdn' := (Entails.of_eq (dn_eq m d)) $$ Hdn
  icases Hdn' with ⟨⟨Hc, Hu⟩, Ho⟩
  imodintro
  isplitl [Hst]; · iexact Hst
  isplitr [Hb Hts]
  · isplitl [Hc Hc']
    · isplitl [Hc] <;> iassumption
    isplitl [Hu Hu']
    · isplitl [Hu] <;> iassumption
    iexact Ho
  isplitl [Hb] <;> iassumption

/-- What is read off the memory in the end. -/
def fq (d : Dev nD) (s' : Phys nD τ sig (Elt F)) : Prop :=
  s'.mem.mem (cLoc d) = m (cLoc d) ∧ s'.mem.mem (uLoc d) = m (uLoc d) ∧ s'.mem.mem (oLoc d) = out d m

/-- An array held whole has its contents in the memory. -/
theorem agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The arrays held at the end are the memory's. -/
theorem hfin (d : Dev nD) (s' : Phys nD τ sig (Elt F)) : iprop(FIN m d ∗ SI s') ⊢ (⌜fq m d s'⌝ : sProp 𝕄) :=
  fun x hx => ⟨((sep_mono_left sep_elim_left).trans (agree _ _ s')) x hx,
    ((sep_mono_left (sep_elim_right.trans sep_elim_left)).trans (agree _ _ s')) x hx,
    ((sep_mono_left (sep_elim_right.trans sep_elim_right)).trans (agree _ _ s')) x hx⟩

/-- What every run ends with. -/
def QC : PUnit × MemSt nD τ sig (Elt F) → Prop := fun r =>
  (∀ c : Dev nD, r.2.mem (cLoc c) = m (cLoc c) ∧ r.2.mem (uLoc c) = m (uLoc c) ∧ r.2.mem (oLoc c) = out c m) ∧ r.2.sem = fun _ => 0

/-- Every fair run of the program ends, the arguments unchanged, the result written and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Signals

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.Launch
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends, its arguments unchanged and every counter at zero. -/
theorem frame_kernel : Cert.quiescent_Kernel := fun m ρ _ =>
  (θ_run Cert.KernelIdeal.defs _ _).mono (fun _ h => ⟨fun c => ⟨(h.1 c).1, (h.1 c).2.1⟩, h.2⟩) (Run.run_main (F := Bits) m ρ)

/-- So does its idealization. -/
theorem frame_ideal : Cert.quiescent_KernelIdeal := fun m ρ _ =>
  (θ_run Cert.KernelIdeal.defs _ _).mono (fun _ h => ⟨fun c => ⟨(h.1 c).1, (h.1 c).2.1⟩, h.2⟩) (Run.run_main (F := Ideal) m ρ)

/-- So does the reference, which has no counters. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems rfl r.2⟩) (Cert.ReferenceIdeal.Value.run (F := Ideal) m ρ)

/-- The idealization and the reference end with the same result: the cache's rows moved up, then the update's. -/
theorem same_result : Cert.algebraic_KernelIdeal_ReferenceIdeal := fun m ρ m' ρ' _ hm =>
  ⟨fun c => Run.out (F := Ideal) c m,
    (θ_run Cert.KernelIdeal.defs _ _).mono (fun _ h c => ⟨(h.1 c).2.2, (h.1 c).1, (h.1 c).2.1⟩) (Run.run_main (F := Ideal) m ρ),
    (θ_run Cert.ReferenceIdeal.defs _ _).mono
      (fun _ h c => ⟨((h c).1.trans (Value.reference_eq _ _)).trans (congrArg₂ Value.moved (hm c).1 (hm c).2), (h c).2.1, (h c).2.2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
